-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x768x24x24 : Shape := ⟨4, ![32, 768, 24, 24]⟩
abbrev S32x32x13824 : Shape := ⟨3, ![32, 32, 13824]⟩
abbrev S2x2x13824 : Shape := ⟨3, ![2, 2, 13824]⟩
abbrev S13824 : Shape := ⟨1, ![13824]⟩
abbrev S_ : Shape := ⟨0, ![]⟩
abbrev S1x2x13824 : Shape := ⟨3, ![1, 2, 13824]⟩
abbrev S2x13824 : Shape := ⟨2, ![2, 13824]⟩
abbrev S1x1x16 : Shape := ⟨3, ![1, 1, 16]⟩
abbrev S16 : Shape := ⟨1, ![16]⟩
abbrev S1x1x13824 : Shape := ⟨3, ![1, 1, 13824]⟩

abbrev nBuf : Table → Nat
  | .hbm => 4
  | .local .scVector .vmem => 2
  | _ => 0

abbrev bufTy : (tb : Table) → Fin (nBuf tb) → BufTy
  | .hbm, ⟨0, _⟩ => ⟨S32x768x24x24, .f32⟩
  | .hbm, ⟨1, _⟩ => ⟨S32x32x13824, .f32⟩
  | .hbm, ⟨2, _⟩ => ⟨S32x32x13824, .f32⟩
  | .hbm, ⟨3, _⟩ => ⟨S32x768x24x24, .f32⟩
  | .local .scVector .vmem, ⟨0, _⟩ => ⟨S2x2x13824, .f32⟩
  | .local .scVector .vmem, ⟨1, _⟩ => ⟨S13824, .f32⟩
  | _, _ => ⟨S32x768x24x24, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2 : BitVec 32 := 0#32
  let c0_i32_3 : BitVec 32 := 0#32
  ![v1.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_10 : BitVec 32 := 2#32
  let c0_i32_11 : BitVec 32 := 0#32
  ![v1.toNat, 2, 0]
@[reducible] def k0_t1_loop : Scf.Loop 32 :=
  let c0_i32_25 : BitVec 32 := 0#32
  let c108_i32 : BitVec 32 := 108#32
  let v26 : BitVec 32 := Scalar.addi c0_i32_25 c108_i32
  let c1_i32_26 : BitVec 32 := 1#32
  ⟨c0_i32_25, v26, c1_i32_26⟩
def k0_off3 (k0_t1 : Fin k0_t1_loop.trips) (c0_i32_515 : BitVec 32) : Fin 3 → Nat :=
  let c0_i32_517 : BitVec 32 := 0#32
  let v535 : Index := Scalar.indexCast c0_i32_517
  let c0_i32_518 : BitVec 32 := 0#32
  let v536 : Index := Scalar.indexCast c0_i32_518
  let c0_i32_513 : BitVec 32 := 0#32
  let c0_i32_25 : BitVec 32 := 0#32
  let c1_i32_26 : BitVec 32 := 1#32
  let arg9 : BitVec 32 := Scf.iv c0_i32_25 c1_i32_26 k0_t1
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v537 : Index := Scalar.indexCast v534
  ![0, 0, v537.toNat]
def k0_off4 (k0_t1 : Fin k0_t1_loop.trips) (c0_i32_515 : BitVec 32) : Fin 3 → Nat :=
  let c0_i32_519 : BitVec 32 := 0#32
  let v540 : Index := Scalar.indexCast c0_i32_519
  let c1_i32_520 : BitVec 32 := 1#32
  let v541 : Index := Scalar.indexCast c1_i32_520
  let c0_i32_513 : BitVec 32 := 0#32
  let c0_i32_25 : BitVec 32 := 0#32
  let c1_i32_26 : BitVec 32 := 1#32
  let arg9 : BitVec 32 := Scf.iv c0_i32_25 c1_i32_26 k0_t1
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v542 : Index := Scalar.indexCast v534
  ![0, 1, v542.toNat]
def k0_off5 (k0_t1 : Fin k0_t1_loop.trips) (c0_i32_515 : BitVec 32) : Fin 1 → Nat :=
  let c0_i32_513 : BitVec 32 := 0#32
  let c0_i32_25 : BitVec 32 := 0#32
  let c1_i32_26 : BitVec 32 := 1#32
  let arg9 : BitVec 32 := Scf.iv c0_i32_25 c1_i32_26 k0_t1
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v546 : Index := Scalar.indexCast v534
  ![v546.toNat]
def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let c0_i32_31 : BitVec 32 := 0#32
  ![v1.toNat, 4, 0]
@[reducible] def k0_t2_loop : Scf.Loop 32 :=
  let c0_i32_45 : BitVec 32 := 0#32
  let c108_i32_46 : BitVec 32 := 108#32
  let v43 : BitVec 32 := Scalar.addi c0_i32_45 c108_i32_46
  let c1_i32_47 : BitVec 32 := 1#32
  ⟨c0_i32_45, v43, c1_i32_47⟩
def k0_off7 (k0_t2 : Fin k0_t2_loop.trips) (c0_i32_515 : BitVec 32) : Fin 1 → Nat :=
  let c0_i32_513 : BitVec 32 := 0#32
  let c0_i32_45 : BitVec 32 := 0#32
  let c1_i32_47 : BitVec 32 := 1#32
  let arg9 : BitVec 32 := Scf.iv c0_i32_45 c1_i32_47 k0_t2
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v535 : Index := Scalar.indexCast v534
  ![v535.toNat]
def k0_off8 (k0_t2 : Fin k0_t2_loop.trips) (c0_i32_515 : BitVec 32) : Fin 3 → Nat :=
  let c1_i32_517 : BitVec 32 := 1#32
  let v538 : Index := Scalar.indexCast c1_i32_517
  let c0_i32_518 : BitVec 32 := 0#32
  let v539 : Index := Scalar.indexCast c0_i32_518
  let c0_i32_513 : BitVec 32 := 0#32
  let c0_i32_45 : BitVec 32 := 0#32
  let c1_i32_47 : BitVec 32 := 1#32
  let arg9 : BitVec 32 := Scf.iv c0_i32_45 c1_i32_47 k0_t2
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v540 : Index := Scalar.indexCast v534
  ![1, 0, v540.toNat]
def k0_off9 (k0_t2 : Fin k0_t2_loop.trips) (c0_i32_515 : BitVec 32) : Fin 3 → Nat :=
  let c1_i32_519 : BitVec 32 := 1#32
  let v544 : Index := Scalar.indexCast c1_i32_519
  let c1_i32_520 : BitVec 32 := 1#32
  let v545 : Index := Scalar.indexCast c1_i32_520
  let c0_i32_513 : BitVec 32 := 0#32
  let c0_i32_45 : BitVec 32 := 0#32
  let c1_i32_47 : BitVec 32 := 1#32
  let arg9 : BitVec 32 := Scf.iv c0_i32_45 c1_i32_47 k0_t2
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v546 : Index := Scalar.indexCast v534
  ![1, 1, v546.toNat]
def k0_off10 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let c0_i32_52 : BitVec 32 := 0#32
  ![v1.toNat, 6, 0]
@[reducible] def k0_t3_loop : Scf.Loop 32 :=
  let c0_i32_66 : BitVec 32 := 0#32
  let c108_i32_67 : BitVec 32 := 108#32
  let v60 : BitVec 32 := Scalar.addi c0_i32_66 c108_i32_67
  let c1_i32_68 : BitVec 32 := 1#32
  ⟨c0_i32_66, v60, c1_i32_68⟩
def k0_off11 (k0_t3 : Fin k0_t3_loop.trips) (c0_i32_515 : BitVec 32) : Fin 1 → Nat :=
  let c0_i32_513 : BitVec 32 := 0#32
  let c0_i32_66 : BitVec 32 := 0#32
  let c1_i32_68 : BitVec 32 := 1#32
  let arg9 : BitVec 32 := Scf.iv c0_i32_66 c1_i32_68 k0_t3
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v535 : Index := Scalar.indexCast v534
  ![v535.toNat]
def k0_off12 (k0_t3 : Fin k0_t3_loop.trips) (c0_i32_515 : BitVec 32) : Fin 3 → Nat :=
  let c0_i32_517 : BitVec 32 := 0#32
  let v538 : Index := Scalar.indexCast c0_i32_517
  let c0_i32_518 : BitVec 32 := 0#32
  let v539 : Index := Scalar.indexCast c0_i32_518
  let c0_i32_513 : BitVec 32 := 0#32
  let c0_i32_66 : BitVec 32 := 0#32
  let c1_i32_68 : BitVec 32 := 1#32
  let arg9 : BitVec 32 := Scf.iv c0_i32_66 c1_i32_68 k0_t3
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v540 : Index := Scalar.indexCast v534
  ![0, 0, v540.toNat]
def k0_off13 (k0_t3 : Fin k0_t3_loop.trips) (c0_i32_515 : BitVec 32) : Fin 3 → Nat :=
  let c0_i32_519 : BitVec 32 := 0#32
  let v544 : Index := Scalar.indexCast c0_i32_519
  let c1_i32_520 : BitVec 32 := 1#32
  let v545 : Index := Scalar.indexCast c1_i32_520
  let c0_i32_513 : BitVec 32 := 0#32
  let c0_i32_66 : BitVec 32 := 0#32
  let c1_i32_68 : BitVec 32 := 1#32
  let arg9 : BitVec 32 := Scf.iv c0_i32_66 c1_i32_68 k0_t3
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v546 : Index := Scalar.indexCast v534
  ![0, 1, v546.toNat]
def k0_off14 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32_73 : BitVec 32 := 0#32
  ![v1.toNat, 8, 0]
@[reducible] def k0_t4_loop : Scf.Loop 32 :=
  let c0_i32_87 : BitVec 32 := 0#32
  let c108_i32_88 : BitVec 32 := 108#32
  let v77 : BitVec 32 := Scalar.addi c0_i32_87 c108_i32_88
  let c1_i32_89 : BitVec 32 := 1#32
  ⟨c0_i32_87, v77, c1_i32_89⟩
def k0_off15 (k0_t4 : Fin k0_t4_loop.trips) (c0_i32_515 : BitVec 32) : Fin 1 → Nat :=
  let c0_i32_513 : BitVec 32 := 0#32
  let c0_i32_87 : BitVec 32 := 0#32
  let c1_i32_89 : BitVec 32 := 1#32
  let arg9 : BitVec 32 := Scf.iv c0_i32_87 c1_i32_89 k0_t4
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v535 : Index := Scalar.indexCast v534
  ![v535.toNat]
def k0_off16 (k0_t4 : Fin k0_t4_loop.trips) (c0_i32_515 : BitVec 32) : Fin 3 → Nat :=
  let c1_i32_517 : BitVec 32 := 1#32
  let v538 : Index := Scalar.indexCast c1_i32_517
  let c0_i32_518 : BitVec 32 := 0#32
  let v539 : Index := Scalar.indexCast c0_i32_518
  let c0_i32_513 : BitVec 32 := 0#32
  let c0_i32_87 : BitVec 32 := 0#32
  let c1_i32_89 : BitVec 32 := 1#32
  let arg9 : BitVec 32 := Scf.iv c0_i32_87 c1_i32_89 k0_t4
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v540 : Index := Scalar.indexCast v534
  ![1, 0, v540.toNat]
def k0_off17 (k0_t4 : Fin k0_t4_loop.trips) (c0_i32_515 : BitVec 32) : Fin 3 → Nat :=
  let c1_i32_519 : BitVec 32 := 1#32
  let v544 : Index := Scalar.indexCast c1_i32_519
  let c1_i32_520 : BitVec 32 := 1#32
  let v545 : Index := Scalar.indexCast c1_i32_520
  let c0_i32_513 : BitVec 32 := 0#32
  let c0_i32_87 : BitVec 32 := 0#32
  let c1_i32_89 : BitVec 32 := 1#32
  let arg9 : BitVec 32 := Scf.iv c0_i32_87 c1_i32_89 k0_t4
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v546 : Index := Scalar.indexCast v534
  ![1, 1, v546.toNat]
def k0_off18 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let c0_i32_94 : BitVec 32 := 0#32
  ![v1.toNat, 10, 0]
@[reducible] def k0_t5_loop : Scf.Loop 32 :=
  let c0_i32_108 : BitVec 32 := 0#32
  let c108_i32_109 : BitVec 32 := 108#32
  let v94 : BitVec 32 := Scalar.addi c0_i32_108 c108_i32_109
  let c1_i32_110 : BitVec 32 := 1#32
  ⟨c0_i32_108, v94, c1_i32_110⟩
def k0_off19 (k0_t5 : Fin k0_t5_loop.trips) (c0_i32_515 : BitVec 32) : Fin 1 → Nat :=
  let c0_i32_513 : BitVec 32 := 0#32
  let c0_i32_108 : BitVec 32 := 0#32
  let c1_i32_110 : BitVec 32 := 1#32
  let arg9 : BitVec 32 := Scf.iv c0_i32_108 c1_i32_110 k0_t5
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v535 : Index := Scalar.indexCast v534
  ![v535.toNat]
def k0_off20 (k0_t5 : Fin k0_t5_loop.trips) (c0_i32_515 : BitVec 32) : Fin 3 → Nat :=
  let c0_i32_517 : BitVec 32 := 0#32
  let v538 : Index := Scalar.indexCast c0_i32_517
  let c0_i32_518 : BitVec 32 := 0#32
  let v539 : Index := Scalar.indexCast c0_i32_518
  let c0_i32_513 : BitVec 32 := 0#32
  let c0_i32_108 : BitVec 32 := 0#32
  let c1_i32_110 : BitVec 32 := 1#32
  let arg9 : BitVec 32 := Scf.iv c0_i32_108 c1_i32_110 k0_t5
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v540 : Index := Scalar.indexCast v534
  ![0, 0, v540.toNat]
def k0_off21 (k0_t5 : Fin k0_t5_loop.trips) (c0_i32_515 : BitVec 32) : Fin 3 → Nat :=
  let c0_i32_519 : BitVec 32 := 0#32
  let v544 : Index := Scalar.indexCast c0_i32_519
  let c1_i32_520 : BitVec 32 := 1#32
  let v545 : Index := Scalar.indexCast c1_i32_520
  let c0_i32_513 : BitVec 32 := 0#32
  let c0_i32_108 : BitVec 32 := 0#32
  let c1_i32_110 : BitVec 32 := 1#32
  let arg9 : BitVec 32 := Scf.iv c0_i32_108 c1_i32_110 k0_t5
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v546 : Index := Scalar.indexCast v534
  ![0, 1, v546.toNat]
def k0_off22 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let c0_i32_115 : BitVec 32 := 0#32
  ![v1.toNat, 12, 0]
@[reducible] def k0_t6_loop : Scf.Loop 32 :=
  let c0_i32_129 : BitVec 32 := 0#32
  let c108_i32_130 : BitVec 32 := 108#32
  let v111 : BitVec 32 := Scalar.addi c0_i32_129 c108_i32_130
  let c1_i32_131 : BitVec 32 := 1#32
  ⟨c0_i32_129, v111, c1_i32_131⟩
def k0_off23 (k0_t6 : Fin k0_t6_loop.trips) (c0_i32_515 : BitVec 32) : Fin 1 → Nat :=
  let c0_i32_513 : BitVec 32 := 0#32
  let c0_i32_129 : BitVec 32 := 0#32
  let c1_i32_131 : BitVec 32 := 1#32
  let arg9 : BitVec 32 := Scf.iv c0_i32_129 c1_i32_131 k0_t6
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v535 : Index := Scalar.indexCast v534
  ![v535.toNat]
def k0_off24 (k0_t6 : Fin k0_t6_loop.trips) (c0_i32_515 : BitVec 32) : Fin 3 → Nat :=
  let c1_i32_517 : BitVec 32 := 1#32
  let v538 : Index := Scalar.indexCast c1_i32_517
  let c0_i32_518 : BitVec 32 := 0#32
  let v539 : Index := Scalar.indexCast c0_i32_518
  let c0_i32_513 : BitVec 32 := 0#32
  let c0_i32_129 : BitVec 32 := 0#32
  let c1_i32_131 : BitVec 32 := 1#32
  let arg9 : BitVec 32 := Scf.iv c0_i32_129 c1_i32_131 k0_t6
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v540 : Index := Scalar.indexCast v534
  ![1, 0, v540.toNat]
def k0_off25 (k0_t6 : Fin k0_t6_loop.trips) (c0_i32_515 : BitVec 32) : Fin 3 → Nat :=
  let c1_i32_519 : BitVec 32 := 1#32
  let v544 : Index := Scalar.indexCast c1_i32_519
  let c1_i32_520 : BitVec 32 := 1#32
  let v545 : Index := Scalar.indexCast c1_i32_520
  let c0_i32_513 : BitVec 32 := 0#32
  let c0_i32_129 : BitVec 32 := 0#32
  let c1_i32_131 : BitVec 32 := 1#32
  let arg9 : BitVec 32 := Scf.iv c0_i32_129 c1_i32_131 k0_t6
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v546 : Index := Scalar.indexCast v534
  ![1, 1, v546.toNat]
def k0_off26 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c14_i32 : BitVec 32 := 14#32
  let c0_i32_136 : BitVec 32 := 0#32
  ![v1.toNat, 14, 0]
@[reducible] def k0_t7_loop : Scf.Loop 32 :=
  let c0_i32_150 : BitVec 32 := 0#32
  let c108_i32_151 : BitVec 32 := 108#32
  let v128 : BitVec 32 := Scalar.addi c0_i32_150 c108_i32_151
  let c1_i32_152 : BitVec 32 := 1#32
  ⟨c0_i32_150, v128, c1_i32_152⟩
def k0_off27 (k0_t7 : Fin k0_t7_loop.trips) (c0_i32_515 : BitVec 32) : Fin 1 → Nat :=
  let c0_i32_513 : BitVec 32 := 0#32
  let c0_i32_150 : BitVec 32 := 0#32
  let c1_i32_152 : BitVec 32 := 1#32
  let arg9 : BitVec 32 := Scf.iv c0_i32_150 c1_i32_152 k0_t7
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v535 : Index := Scalar.indexCast v534
  ![v535.toNat]
def k0_off28 (k0_t7 : Fin k0_t7_loop.trips) (c0_i32_515 : BitVec 32) : Fin 3 → Nat :=
  let c0_i32_517 : BitVec 32 := 0#32
  let v538 : Index := Scalar.indexCast c0_i32_517
  let c0_i32_518 : BitVec 32 := 0#32
  let v539 : Index := Scalar.indexCast c0_i32_518
  let c0_i32_513 : BitVec 32 := 0#32
  let c0_i32_150 : BitVec 32 := 0#32
  let c1_i32_152 : BitVec 32 := 1#32
  let arg9 : BitVec 32 := Scf.iv c0_i32_150 c1_i32_152 k0_t7
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v540 : Index := Scalar.indexCast v534
  ![0, 0, v540.toNat]
def k0_off29 (k0_t7 : Fin k0_t7_loop.trips) (c0_i32_515 : BitVec 32) : Fin 3 → Nat :=
  let c0_i32_519 : BitVec 32 := 0#32
  let v544 : Index := Scalar.indexCast c0_i32_519
  let c1_i32_520 : BitVec 32 := 1#32
  let v545 : Index := Scalar.indexCast c1_i32_520
  let c0_i32_513 : BitVec 32 := 0#32
  let c0_i32_150 : BitVec 32 := 0#32
  let c1_i32_152 : BitVec 32 := 1#32
  let arg9 : BitVec 32 := Scf.iv c0_i32_150 c1_i32_152 k0_t7
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v546 : Index := Scalar.indexCast v534
  ![0, 1, v546.toNat]
def k0_off30 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32_157 : BitVec 32 := 0#32
  ![v1.toNat, 16, 0]
@[reducible] def k0_t8_loop : Scf.Loop 32 :=
  let c0_i32_171 : BitVec 32 := 0#32
  let c108_i32_172 : BitVec 32 := 108#32
  let v145 : BitVec 32 := Scalar.addi c0_i32_171 c108_i32_172
  let c1_i32_173 : BitVec 32 := 1#32
  ⟨c0_i32_171, v145, c1_i32_173⟩
def k0_off31 (k0_t8 : Fin k0_t8_loop.trips) (c0_i32_515 : BitVec 32) : Fin 1 → Nat :=
  let c0_i32_513 : BitVec 32 := 0#32
  let c0_i32_171 : BitVec 32 := 0#32
  let c1_i32_173 : BitVec 32 := 1#32
  let arg9 : BitVec 32 := Scf.iv c0_i32_171 c1_i32_173 k0_t8
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v535 : Index := Scalar.indexCast v534
  ![v535.toNat]
def k0_off32 (k0_t8 : Fin k0_t8_loop.trips) (c0_i32_515 : BitVec 32) : Fin 3 → Nat :=
  let c1_i32_517 : BitVec 32 := 1#32
  let v538 : Index := Scalar.indexCast c1_i32_517
  let c0_i32_518 : BitVec 32 := 0#32
  let v539 : Index := Scalar.indexCast c0_i32_518
  let c0_i32_513 : BitVec 32 := 0#32
  let c0_i32_171 : BitVec 32 := 0#32
  let c1_i32_173 : BitVec 32 := 1#32
  let arg9 : BitVec 32 := Scf.iv c0_i32_171 c1_i32_173 k0_t8
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v540 : Index := Scalar.indexCast v534
  ![1, 0, v540.toNat]
def k0_off33 (k0_t8 : Fin k0_t8_loop.trips) (c0_i32_515 : BitVec 32) : Fin 3 → Nat :=
  let c1_i32_519 : BitVec 32 := 1#32
  let v544 : Index := Scalar.indexCast c1_i32_519
  let c1_i32_520 : BitVec 32 := 1#32
  let v545 : Index := Scalar.indexCast c1_i32_520
  let c0_i32_513 : BitVec 32 := 0#32
  let c0_i32_171 : BitVec 32 := 0#32
  let c1_i32_173 : BitVec 32 := 1#32
  let arg9 : BitVec 32 := Scf.iv c0_i32_171 c1_i32_173 k0_t8
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v546 : Index := Scalar.indexCast v534
  ![1, 1, v546.toNat]
def k0_off34 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c18_i32 : BitVec 32 := 18#32
  let c0_i32_178 : BitVec 32 := 0#32
  ![v1.toNat, 18, 0]
@[reducible] def k0_t9_loop : Scf.Loop 32 :=
  let c0_i32_192 : BitVec 32 := 0#32
  let c108_i32_193 : BitVec 32 := 108#32
  let v162 : BitVec 32 := Scalar.addi c0_i32_192 c108_i32_193
  let c1_i32_194 : BitVec 32 := 1#32
  ⟨c0_i32_192, v162, c1_i32_194⟩
def k0_off35 (k0_t9 : Fin k0_t9_loop.trips) (c0_i32_515 : BitVec 32) : Fin 1 → Nat :=
  let c0_i32_513 : BitVec 32 := 0#32
  let c0_i32_192 : BitVec 32 := 0#32
  let c1_i32_194 : BitVec 32 := 1#32
  let arg9 : BitVec 32 := Scf.iv c0_i32_192 c1_i32_194 k0_t9
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v535 : Index := Scalar.indexCast v534
  ![v535.toNat]
def k0_off36 (k0_t9 : Fin k0_t9_loop.trips) (c0_i32_515 : BitVec 32) : Fin 3 → Nat :=
  let c0_i32_517 : BitVec 32 := 0#32
  let v538 : Index := Scalar.indexCast c0_i32_517
  let c0_i32_518 : BitVec 32 := 0#32
  let v539 : Index := Scalar.indexCast c0_i32_518
  let c0_i32_513 : BitVec 32 := 0#32
  let c0_i32_192 : BitVec 32 := 0#32
  let c1_i32_194 : BitVec 32 := 1#32
  let arg9 : BitVec 32 := Scf.iv c0_i32_192 c1_i32_194 k0_t9
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v540 : Index := Scalar.indexCast v534
  ![0, 0, v540.toNat]
def k0_off37 (k0_t9 : Fin k0_t9_loop.trips) (c0_i32_515 : BitVec 32) : Fin 3 → Nat :=
  let c0_i32_519 : BitVec 32 := 0#32
  let v544 : Index := Scalar.indexCast c0_i32_519
  let c1_i32_520 : BitVec 32 := 1#32
  let v545 : Index := Scalar.indexCast c1_i32_520
  let c0_i32_513 : BitVec 32 := 0#32
  let c0_i32_192 : BitVec 32 := 0#32
  let c1_i32_194 : BitVec 32 := 1#32
  let arg9 : BitVec 32 := Scf.iv c0_i32_192 c1_i32_194 k0_t9
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v546 : Index := Scalar.indexCast v534
  ![0, 1, v546.toNat]
def k0_off38 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let c0_i32_199 : BitVec 32 := 0#32
  ![v1.toNat, 20, 0]
@[reducible] def k0_t10_loop : Scf.Loop 32 :=
  let c0_i32_213 : BitVec 32 := 0#32
  let c108_i32_214 : BitVec 32 := 108#32
  let v179 : BitVec 32 := Scalar.addi c0_i32_213 c108_i32_214
  let c1_i32_215 : BitVec 32 := 1#32
  ⟨c0_i32_213, v179, c1_i32_215⟩
def k0_off39 (k0_t10 : Fin k0_t10_loop.trips) (c0_i32_515 : BitVec 32) : Fin 1 → Nat :=
  let c0_i32_513 : BitVec 32 := 0#32
  let c0_i32_213 : BitVec 32 := 0#32
  let c1_i32_215 : BitVec 32 := 1#32
  let arg9 : BitVec 32 := Scf.iv c0_i32_213 c1_i32_215 k0_t10
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v535 : Index := Scalar.indexCast v534
  ![v535.toNat]
def k0_off40 (k0_t10 : Fin k0_t10_loop.trips) (c0_i32_515 : BitVec 32) : Fin 3 → Nat :=
  let c1_i32_517 : BitVec 32 := 1#32
  let v538 : Index := Scalar.indexCast c1_i32_517
  let c0_i32_518 : BitVec 32 := 0#32
  let v539 : Index := Scalar.indexCast c0_i32_518
  let c0_i32_513 : BitVec 32 := 0#32
  let c0_i32_213 : BitVec 32 := 0#32
  let c1_i32_215 : BitVec 32 := 1#32
  let arg9 : BitVec 32 := Scf.iv c0_i32_213 c1_i32_215 k0_t10
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v540 : Index := Scalar.indexCast v534
  ![1, 0, v540.toNat]
def k0_off41 (k0_t10 : Fin k0_t10_loop.trips) (c0_i32_515 : BitVec 32) : Fin 3 → Nat :=
  let c1_i32_519 : BitVec 32 := 1#32
  let v544 : Index := Scalar.indexCast c1_i32_519
  let c1_i32_520 : BitVec 32 := 1#32
  let v545 : Index := Scalar.indexCast c1_i32_520
  let c0_i32_513 : BitVec 32 := 0#32
  let c0_i32_213 : BitVec 32 := 0#32
  let c1_i32_215 : BitVec 32 := 1#32
  let arg9 : BitVec 32 := Scf.iv c0_i32_213 c1_i32_215 k0_t10
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v546 : Index := Scalar.indexCast v534
  ![1, 1, v546.toNat]
def k0_off42 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c22_i32 : BitVec 32 := 22#32
  let c0_i32_220 : BitVec 32 := 0#32
  ![v1.toNat, 22, 0]
@[reducible] def k0_t11_loop : Scf.Loop 32 :=
  let c0_i32_234 : BitVec 32 := 0#32
  let c108_i32_235 : BitVec 32 := 108#32
  let v196 : BitVec 32 := Scalar.addi c0_i32_234 c108_i32_235
  let c1_i32_236 : BitVec 32 := 1#32
  ⟨c0_i32_234, v196, c1_i32_236⟩
def k0_off43 (k0_t11 : Fin k0_t11_loop.trips) (c0_i32_515 : BitVec 32) : Fin 1 → Nat :=
  let c0_i32_513 : BitVec 32 := 0#32
  let c0_i32_234 : BitVec 32 := 0#32
  let c1_i32_236 : BitVec 32 := 1#32
  let arg9 : BitVec 32 := Scf.iv c0_i32_234 c1_i32_236 k0_t11
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v535 : Index := Scalar.indexCast v534
  ![v535.toNat]
def k0_off44 (k0_t11 : Fin k0_t11_loop.trips) (c0_i32_515 : BitVec 32) : Fin 3 → Nat :=
  let c0_i32_517 : BitVec 32 := 0#32
  let v538 : Index := Scalar.indexCast c0_i32_517
  let c0_i32_518 : BitVec 32 := 0#32
  let v539 : Index := Scalar.indexCast c0_i32_518
  let c0_i32_513 : BitVec 32 := 0#32
  let c0_i32_234 : BitVec 32 := 0#32
  let c1_i32_236 : BitVec 32 := 1#32
  let arg9 : BitVec 32 := Scf.iv c0_i32_234 c1_i32_236 k0_t11
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v540 : Index := Scalar.indexCast v534
  ![0, 0, v540.toNat]
def k0_off45 (k0_t11 : Fin k0_t11_loop.trips) (c0_i32_515 : BitVec 32) : Fin 3 → Nat :=
  let c0_i32_519 : BitVec 32 := 0#32
  let v544 : Index := Scalar.indexCast c0_i32_519
  let c1_i32_520 : BitVec 32 := 1#32
  let v545 : Index := Scalar.indexCast c1_i32_520
  let c0_i32_513 : BitVec 32 := 0#32
  let c0_i32_234 : BitVec 32 := 0#32
  let c1_i32_236 : BitVec 32 := 1#32
  let arg9 : BitVec 32 := Scf.iv c0_i32_234 c1_i32_236 k0_t11
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v546 : Index := Scalar.indexCast v534
  ![0, 1, v546.toNat]
def k0_off46 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let c0_i32_241 : BitVec 32 := 0#32
  ![v1.toNat, 24, 0]
@[reducible] def k0_t12_loop : Scf.Loop 32 :=
  let c0_i32_255 : BitVec 32 := 0#32
  let c108_i32_256 : BitVec 32 := 108#32
  let v213 : BitVec 32 := Scalar.addi c0_i32_255 c108_i32_256
  let c1_i32_257 : BitVec 32 := 1#32
  ⟨c0_i32_255, v213, c1_i32_257⟩
def k0_off47 (k0_t12 : Fin k0_t12_loop.trips) (c0_i32_515 : BitVec 32) : Fin 1 → Nat :=
  let c0_i32_513 : BitVec 32 := 0#32
  let c0_i32_255 : BitVec 32 := 0#32
  let c1_i32_257 : BitVec 32 := 1#32
  let arg9 : BitVec 32 := Scf.iv c0_i32_255 c1_i32_257 k0_t12
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v535 : Index := Scalar.indexCast v534
  ![v535.toNat]
def k0_off48 (k0_t12 : Fin k0_t12_loop.trips) (c0_i32_515 : BitVec 32) : Fin 3 → Nat :=
  let c1_i32_517 : BitVec 32 := 1#32
  let v538 : Index := Scalar.indexCast c1_i32_517
  let c0_i32_518 : BitVec 32 := 0#32
  let v539 : Index := Scalar.indexCast c0_i32_518
  let c0_i32_513 : BitVec 32 := 0#32
  let c0_i32_255 : BitVec 32 := 0#32
  let c1_i32_257 : BitVec 32 := 1#32
  let arg9 : BitVec 32 := Scf.iv c0_i32_255 c1_i32_257 k0_t12
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v540 : Index := Scalar.indexCast v534
  ![1, 0, v540.toNat]
def k0_off49 (k0_t12 : Fin k0_t12_loop.trips) (c0_i32_515 : BitVec 32) : Fin 3 → Nat :=
  let c1_i32_519 : BitVec 32 := 1#32
  let v544 : Index := Scalar.indexCast c1_i32_519
  let c1_i32_520 : BitVec 32 := 1#32
  let v545 : Index := Scalar.indexCast c1_i32_520
  let c0_i32_513 : BitVec 32 := 0#32
  let c0_i32_255 : BitVec 32 := 0#32
  let c1_i32_257 : BitVec 32 := 1#32
  let arg9 : BitVec 32 := Scf.iv c0_i32_255 c1_i32_257 k0_t12
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v546 : Index := Scalar.indexCast v534
  ![1, 1, v546.toNat]
def k0_off50 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let c0_i32_262 : BitVec 32 := 0#32
  ![v1.toNat, 26, 0]
@[reducible] def k0_t13_loop : Scf.Loop 32 :=
  let c0_i32_276 : BitVec 32 := 0#32
  let c108_i32_277 : BitVec 32 := 108#32
  let v230 : BitVec 32 := Scalar.addi c0_i32_276 c108_i32_277
  let c1_i32_278 : BitVec 32 := 1#32
  ⟨c0_i32_276, v230, c1_i32_278⟩
def k0_off51 (k0_t13 : Fin k0_t13_loop.trips) (c0_i32_515 : BitVec 32) : Fin 1 → Nat :=
  let c0_i32_513 : BitVec 32 := 0#32
  let c0_i32_276 : BitVec 32 := 0#32
  let c1_i32_278 : BitVec 32 := 1#32
  let arg9 : BitVec 32 := Scf.iv c0_i32_276 c1_i32_278 k0_t13
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v535 : Index := Scalar.indexCast v534
  ![v535.toNat]
def k0_off52 (k0_t13 : Fin k0_t13_loop.trips) (c0_i32_515 : BitVec 32) : Fin 3 → Nat :=
  let c0_i32_517 : BitVec 32 := 0#32
  let v538 : Index := Scalar.indexCast c0_i32_517
  let c0_i32_518 : BitVec 32 := 0#32
  let v539 : Index := Scalar.indexCast c0_i32_518
  let c0_i32_513 : BitVec 32 := 0#32
  let c0_i32_276 : BitVec 32 := 0#32
  let c1_i32_278 : BitVec 32 := 1#32
  let arg9 : BitVec 32 := Scf.iv c0_i32_276 c1_i32_278 k0_t13
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v540 : Index := Scalar.indexCast v534
  ![0, 0, v540.toNat]
def k0_off53 (k0_t13 : Fin k0_t13_loop.trips) (c0_i32_515 : BitVec 32) : Fin 3 → Nat :=
  let c0_i32_519 : BitVec 32 := 0#32
  let v544 : Index := Scalar.indexCast c0_i32_519
  let c1_i32_520 : BitVec 32 := 1#32
  let v545 : Index := Scalar.indexCast c1_i32_520
  let c0_i32_513 : BitVec 32 := 0#32
  let c0_i32_276 : BitVec 32 := 0#32
  let c1_i32_278 : BitVec 32 := 1#32
  let arg9 : BitVec 32 := Scf.iv c0_i32_276 c1_i32_278 k0_t13
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v546 : Index := Scalar.indexCast v534
  ![0, 1, v546.toNat]
def k0_off54 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32 : BitVec 32 := 28#32
  let c0_i32_283 : BitVec 32 := 0#32
  ![v1.toNat, 28, 0]
@[reducible] def k0_t14_loop : Scf.Loop 32 :=
  let c0_i32_297 : BitVec 32 := 0#32
  let c108_i32_298 : BitVec 32 := 108#32
  let v247 : BitVec 32 := Scalar.addi c0_i32_297 c108_i32_298
  let c1_i32_299 : BitVec 32 := 1#32
  ⟨c0_i32_297, v247, c1_i32_299⟩
def k0_off55 (k0_t14 : Fin k0_t14_loop.trips) (c0_i32_515 : BitVec 32) : Fin 1 → Nat :=
  let c0_i32_513 : BitVec 32 := 0#32
  let c0_i32_297 : BitVec 32 := 0#32
  let c1_i32_299 : BitVec 32 := 1#32
  let arg9 : BitVec 32 := Scf.iv c0_i32_297 c1_i32_299 k0_t14
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v535 : Index := Scalar.indexCast v534
  ![v535.toNat]
def k0_off56 (k0_t14 : Fin k0_t14_loop.trips) (c0_i32_515 : BitVec 32) : Fin 3 → Nat :=
  let c1_i32_517 : BitVec 32 := 1#32
  let v538 : Index := Scalar.indexCast c1_i32_517
  let c0_i32_518 : BitVec 32 := 0#32
  let v539 : Index := Scalar.indexCast c0_i32_518
  let c0_i32_513 : BitVec 32 := 0#32
  let c0_i32_297 : BitVec 32 := 0#32
  let c1_i32_299 : BitVec 32 := 1#32
  let arg9 : BitVec 32 := Scf.iv c0_i32_297 c1_i32_299 k0_t14
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v540 : Index := Scalar.indexCast v534
  ![1, 0, v540.toNat]
def k0_off57 (k0_t14 : Fin k0_t14_loop.trips) (c0_i32_515 : BitVec 32) : Fin 3 → Nat :=
  let c1_i32_519 : BitVec 32 := 1#32
  let v544 : Index := Scalar.indexCast c1_i32_519
  let c1_i32_520 : BitVec 32 := 1#32
  let v545 : Index := Scalar.indexCast c1_i32_520
  let c0_i32_513 : BitVec 32 := 0#32
  let c0_i32_297 : BitVec 32 := 0#32
  let c1_i32_299 : BitVec 32 := 1#32
  let arg9 : BitVec 32 := Scf.iv c0_i32_297 c1_i32_299 k0_t14
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v546 : Index := Scalar.indexCast v534
  ![1, 1, v546.toNat]
def k0_off58 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32 : BitVec 32 := 30#32
  let c0_i32_304 : BitVec 32 := 0#32
  ![v1.toNat, 30, 0]
@[reducible] def k0_t15_loop : Scf.Loop 32 :=
  let c0_i32_318 : BitVec 32 := 0#32
  let c108_i32_319 : BitVec 32 := 108#32
  let v264 : BitVec 32 := Scalar.addi c0_i32_318 c108_i32_319
  let c1_i32_320 : BitVec 32 := 1#32
  ⟨c0_i32_318, v264, c1_i32_320⟩
def k0_off59 (k0_t15 : Fin k0_t15_loop.trips) (c0_i32_515 : BitVec 32) : Fin 1 → Nat :=
  let c0_i32_513 : BitVec 32 := 0#32
  let c0_i32_318 : BitVec 32 := 0#32
  let c1_i32_320 : BitVec 32 := 1#32
  let arg9 : BitVec 32 := Scf.iv c0_i32_318 c1_i32_320 k0_t15
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v535 : Index := Scalar.indexCast v534
  ![v535.toNat]
def k0_off60 (k0_t15 : Fin k0_t15_loop.trips) (c0_i32_515 : BitVec 32) : Fin 3 → Nat :=
  let c0_i32_517 : BitVec 32 := 0#32
  let v538 : Index := Scalar.indexCast c0_i32_517
  let c0_i32_518 : BitVec 32 := 0#32
  let v539 : Index := Scalar.indexCast c0_i32_518
  let c0_i32_513 : BitVec 32 := 0#32
  let c0_i32_318 : BitVec 32 := 0#32
  let c1_i32_320 : BitVec 32 := 1#32
  let arg9 : BitVec 32 := Scf.iv c0_i32_318 c1_i32_320 k0_t15
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v540 : Index := Scalar.indexCast v534
  ![0, 0, v540.toNat]
def k0_off61 (k0_t15 : Fin k0_t15_loop.trips) (c0_i32_515 : BitVec 32) : Fin 3 → Nat :=
  let c0_i32_519 : BitVec 32 := 0#32
  let v544 : Index := Scalar.indexCast c0_i32_519
  let c1_i32_520 : BitVec 32 := 1#32
  let v545 : Index := Scalar.indexCast c1_i32_520
  let c0_i32_513 : BitVec 32 := 0#32
  let c0_i32_318 : BitVec 32 := 0#32
  let c1_i32_320 : BitVec 32 := 1#32
  let arg9 : BitVec 32 := Scf.iv c0_i32_318 c1_i32_320 k0_t15
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v546 : Index := Scalar.indexCast v534
  ![0, 1, v546.toNat]
@[reducible] def k0_t16_loop : Scf.Loop 32 :=
  let c0_i32_331 : BitVec 32 := 0#32
  let c108_i32_332 : BitVec 32 := 108#32
  let v273 : BitVec 32 := Scalar.addi c0_i32_331 c108_i32_332
  let c1_i32_333 : BitVec 32 := 1#32
  ⟨c0_i32_331, v273, c1_i32_333⟩
def k0_off62 (k0_t16 : Fin k0_t16_loop.trips) (c0_i32_515 : BitVec 32) : Fin 1 → Nat :=
  let c0_i32_513 : BitVec 32 := 0#32
  let c0_i32_331 : BitVec 32 := 0#32
  let c1_i32_333 : BitVec 32 := 1#32
  let arg9 : BitVec 32 := Scf.iv c0_i32_331 c1_i32_333 k0_t16
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v535 : Index := Scalar.indexCast v534
  ![v535.toNat]
def k0_off63 (k0_t16 : Fin k0_t16_loop.trips) (c0_i32_515 : BitVec 32) : Fin 3 → Nat :=
  let c1_i32_517 : BitVec 32 := 1#32
  let v538 : Index := Scalar.indexCast c1_i32_517
  let c0_i32_518 : BitVec 32 := 0#32
  let v539 : Index := Scalar.indexCast c0_i32_518
  let c0_i32_513 : BitVec 32 := 0#32
  let c0_i32_331 : BitVec 32 := 0#32
  let c1_i32_333 : BitVec 32 := 1#32
  let arg9 : BitVec 32 := Scf.iv c0_i32_331 c1_i32_333 k0_t16
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v540 : Index := Scalar.indexCast v534
  ![1, 0, v540.toNat]
def k0_off64 (k0_t16 : Fin k0_t16_loop.trips) (c0_i32_515 : BitVec 32) : Fin 3 → Nat :=
  let c1_i32_519 : BitVec 32 := 1#32
  let v544 : Index := Scalar.indexCast c1_i32_519
  let c1_i32_520 : BitVec 32 := 1#32
  let v545 : Index := Scalar.indexCast c1_i32_520
  let c0_i32_513 : BitVec 32 := 0#32
  let c0_i32_331 : BitVec 32 := 0#32
  let c1_i32_333 : BitVec 32 := 1#32
  let arg9 : BitVec 32 := Scf.iv c0_i32_331 c1_i32_333 k0_t16
  let c1_i32_512 : BitVec 32 := 1#32
  let v530 : BitVec 32 := Scalar.muli arg9 c1_i32_512
  let v531 : BitVec 32 := Scalar.addi c0_i32_513 v530
  let c8_i32_514 : BitVec 32 := 8#32
  let v532 : BitVec 32 := Scalar.muli v531 c8_i32_514
  let v533 : BitVec 32 := Scalar.addi v532 c0_i32_515
  let c16_i32_516 : BitVec 32 := 16#32
  let v534 : BitVec 32 := Scalar.muli v533 c16_i32_516
  let v546 : Index := Scalar.indexCast v534
  ![1, 1, v546.toNat]
def k0_off65 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_335 : BitVec 32 := 0#32
  let c0_i32_336 : BitVec 32 := 0#32
  ![v1.toNat, 0, 0]
def k0_off66 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_338 : BitVec 32 := 1#32
  let c0_i32_339 : BitVec 32 := 0#32
  ![v1.toNat, 1, 0]
def k0_off67 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_341 : BitVec 32 := 2#32
  let c0_i32_342 : BitVec 32 := 0#32
  ![v1.toNat, 2, 0]
def k0_off68 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let c0_i32_344 : BitVec 32 := 0#32
  ![v1.toNat, 3, 0]
def k0_off69 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_346 : BitVec 32 := 4#32
  let c0_i32_347 : BitVec 32 := 0#32
  ![v1.toNat, 4, 0]
def k0_off70 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let c0_i32_349 : BitVec 32 := 0#32
  ![v1.toNat, 5, 0]
def k0_off71 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_351 : BitVec 32 := 6#32
  let c0_i32_352 : BitVec 32 := 0#32
  ![v1.toNat, 6, 0]
def k0_off72 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32 : BitVec 32 := 7#32
  let c0_i32_354 : BitVec 32 := 0#32
  ![v1.toNat, 7, 0]
def k0_off73 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_356 : BitVec 32 := 8#32
  let c0_i32_357 : BitVec 32 := 0#32
  ![v1.toNat, 8, 0]
def k0_off74 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32 : BitVec 32 := 9#32
  let c0_i32_359 : BitVec 32 := 0#32
  ![v1.toNat, 9, 0]
def k0_off75 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32_361 : BitVec 32 := 10#32
  let c0_i32_362 : BitVec 32 := 0#32
  ![v1.toNat, 10, 0]
def k0_off76 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32 : BitVec 32 := 11#32
  let c0_i32_364 : BitVec 32 := 0#32
  ![v1.toNat, 11, 0]
def k0_off77 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32_366 : BitVec 32 := 12#32
  let c0_i32_367 : BitVec 32 := 0#32
  ![v1.toNat, 12, 0]
def k0_off78 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let c0_i32_369 : BitVec 32 := 0#32
  ![v1.toNat, 13, 0]
def k0_off79 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c14_i32_371 : BitVec 32 := 14#32
  let c0_i32_372 : BitVec 32 := 0#32
  ![v1.toNat, 14, 0]
def k0_off80 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32 : BitVec 32 := 15#32
  let c0_i32_374 : BitVec 32 := 0#32
  ![v1.toNat, 15, 0]
def k0_off81 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_376 : BitVec 32 := 16#32
  let c0_i32_377 : BitVec 32 := 0#32
  ![v1.toNat, 16, 0]
def k0_off82 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32 : BitVec 32 := 17#32
  let c0_i32_379 : BitVec 32 := 0#32
  ![v1.toNat, 17, 0]
def k0_off83 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c18_i32_381 : BitVec 32 := 18#32
  let c0_i32_382 : BitVec 32 := 0#32
  ![v1.toNat, 18, 0]
def k0_off84 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let c0_i32_384 : BitVec 32 := 0#32
  ![v1.toNat, 19, 0]
def k0_off85 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32_386 : BitVec 32 := 20#32
  let c0_i32_387 : BitVec 32 := 0#32
  ![v1.toNat, 20, 0]
def k0_off86 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32 : BitVec 32 := 21#32
  let c0_i32_389 : BitVec 32 := 0#32
  ![v1.toNat, 21, 0]
def k0_off87 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c22_i32_391 : BitVec 32 := 22#32
  let c0_i32_392 : BitVec 32 := 0#32
  ![v1.toNat, 22, 0]
def k0_off88 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c23_i32 : BitVec 32 := 23#32
  let c0_i32_394 : BitVec 32 := 0#32
  ![v1.toNat, 23, 0]
def k0_off89 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_396 : BitVec 32 := 24#32
  let c0_i32_397 : BitVec 32 := 0#32
  ![v1.toNat, 24, 0]
def k0_off90 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let c0_i32_399 : BitVec 32 := 0#32
  ![v1.toNat, 25, 0]
def k0_off91 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32_401 : BitVec 32 := 26#32
  let c0_i32_402 : BitVec 32 := 0#32
  ![v1.toNat, 26, 0]
def k0_off92 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c27_i32 : BitVec 32 := 27#32
  let c0_i32_404 : BitVec 32 := 0#32
  ![v1.toNat, 27, 0]
def k0_off93 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32_406 : BitVec 32 := 28#32
  let c0_i32_407 : BitVec 32 := 0#32
  ![v1.toNat, 28, 0]
def k0_off94 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c29_i32 : BitVec 32 := 29#32
  let c0_i32_409 : BitVec 32 := 0#32
  ![v1.toNat, 29, 0]
def k0_off95 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_411 : BitVec 32 := 30#32
  let c0_i32_412 : BitVec 32 := 0#32
  ![v1.toNat, 30, 0]
def k0_off96 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let c0_i32_414 : BitVec 32 := 0#32
  ![v1.toNat, 31, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x768x24x24 : Shape := ⟨4, ![32, 768, 24, 24]⟩
abbrev S768 : Shape := ⟨1, ![768]⟩
abbrev S_ : Shape := ⟨0, ![]⟩
abbrev S768x32x24x24 : Shape := ⟨4, ![768, 32, 24, 24]⟩
abbrev S24x32x24x24 : Shape := ⟨4, ![24, 32, 24, 24]⟩
abbrev S768x1 : Shape := ⟨2, ![768, 1]⟩
abbrev S24 : Shape := ⟨1, ![24]⟩
abbrev S24x1x1x1 : Shape := ⟨4, ![24, 1, 1, 1]⟩
abbrev S1 : Shape := ⟨1, ![1]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S32x768x24x24, .f32⟩
  | .hbm, ⟨1, _⟩ => ⟨S768, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S768, .i32⟩
  | .hbm, ⟨9, _⟩ => ⟨S768, .i32⟩
  | .hbm, ⟨10, _⟩ => ⟨S_, .i32⟩
  | .hbm, ⟨11, _⟩ => ⟨S768, .i32⟩
  | .hbm, ⟨12, _⟩ => ⟨S768, .i1⟩
  | .hbm, ⟨13, _⟩ => ⟨S_, .i32⟩
  | .hbm, ⟨14, _⟩ => ⟨S768, .i32⟩
  | .hbm, ⟨15, _⟩ => ⟨S768, .i1⟩
  | .hbm, ⟨16, _⟩ => ⟨S_, .i32⟩
  | .hbm, ⟨17, _⟩ => ⟨S_, .i1⟩
  | .hbm, ⟨18, _⟩ => ⟨S768, .i1⟩
  | .hbm, ⟨19, _⟩ => ⟨S768, .i1⟩
  | .hbm, ⟨20, _⟩ => ⟨S768, .i1⟩
  | .hbm, ⟨21, _⟩ => ⟨S768, .i32⟩
  | .hbm, ⟨22, _⟩ => ⟨S768, .i32⟩
  | .hbm, ⟨23, _⟩ => ⟨S768, .i32⟩
  | .hbm, ⟨24, _⟩ => ⟨S768x32x24x24, .f32⟩
  | .hbm, ⟨25, _⟩ => ⟨S_, .f32⟩
  | .hbm, ⟨26, _⟩ => ⟨S24x32x24x24, .f32⟩
  | .hbm, ⟨27, _⟩ => ⟨S768x1, .i32⟩
  | .hbm, ⟨28, _⟩ => ⟨S24x32x24x24, .f32⟩
  | .hbm, ⟨29, _⟩ => ⟨S_, .i32⟩
  | .hbm, ⟨30, _⟩ => ⟨S24, .i32⟩
  | .hbm, ⟨31, _⟩ => ⟨S_, .i32⟩
  | .hbm, ⟨32, _⟩ => ⟨S_, .i32⟩
  | .hbm, ⟨33, _⟩ => ⟨S768, .i32⟩
  | .hbm, ⟨34, _⟩ => ⟨S768, .i32⟩
  | .hbm, ⟨35, _⟩ => ⟨S_, .i32⟩
  | .hbm, ⟨36, _⟩ => ⟨S768, .i32⟩
  | .hbm, ⟨37, _⟩ => ⟨S768, .i1⟩
  | .hbm, ⟨38, _⟩ => ⟨S_, .i32⟩
  | .hbm, ⟨39, _⟩ => ⟨S768, .i32⟩
  | .hbm, ⟨40, _⟩ => ⟨S768, .i32⟩
  | .hbm, ⟨41, _⟩ => ⟨S768, .i32⟩
  | .hbm, ⟨42, _⟩ => ⟨S768x1, .i32⟩
  | .hbm, ⟨43, _⟩ => ⟨S_, .i32⟩
  | .hbm, ⟨44, _⟩ => ⟨S768, .i32⟩
  | .hbm, ⟨45, _⟩ => ⟨S24, .i32⟩
  | .hbm, ⟨46, _⟩ => ⟨S24, .f32⟩
  | .hbm, ⟨47, _⟩ => ⟨S24x1x1x1, .f32⟩
  | .hbm, ⟨48, _⟩ => ⟨S24x32x24x24, .f32⟩
  | .hbm, ⟨49, _⟩ => ⟨S24x32x24x24, .f32⟩
  | .hbm, ⟨50, _⟩ => ⟨S_, .i32⟩
  | .hbm, ⟨51, _⟩ => ⟨S768, .i32⟩
  | .hbm, ⟨52, _⟩ => ⟨S768, .i1⟩
  | .hbm, ⟨53, _⟩ => ⟨S_, .i32⟩
  | .hbm, ⟨54, _⟩ => ⟨S768, .i32⟩
  | .hbm, ⟨55, _⟩ => ⟨S768, .i32⟩
  | .hbm, ⟨56, _⟩ => ⟨S768, .i32⟩
  | .hbm, ⟨57, _⟩ => ⟨S768x1, .i32⟩
  | .hbm, ⟨58, _⟩ => ⟨S1, .i32⟩
  | .hbm, ⟨59, _⟩ => ⟨S_, .i32⟩
  | .hbm, ⟨60, _⟩ => ⟨S768x1, .i32⟩
  | .hbm, ⟨61, _⟩ => ⟨S768x1, .i1⟩
  | .hbm, ⟨62, _⟩ => ⟨S1x1, .i32⟩
  | .hbm, ⟨63, _⟩ => ⟨S768x1, .i32⟩
  | .hbm, ⟨64, _⟩ => ⟨S768x1, .i1⟩
  | .hbm, ⟨65, _⟩ => ⟨S768x1, .i1⟩
  | .hbm, ⟨66, _⟩ => ⟨S_, .i1⟩
  | .hbm, ⟨67, _⟩ => ⟨S768, .i1⟩
  | .hbm, ⟨68, _⟩ => ⟨S768x32x24x24, .f32⟩
  | .hbm, ⟨69, _⟩ => ⟨S768x32x24x24, .i1⟩
  | .hbm, ⟨70, _⟩ => ⟨S_, .f32⟩
  | .hbm, ⟨71, _⟩ => ⟨S768x32x24x24, .f32⟩
  | .hbm, ⟨72, _⟩ => ⟨S768x32x24x24, .f32⟩
  | .hbm, ⟨73, _⟩ => ⟨S32x768x24x24, .f32⟩
  | _, _ => ⟨S32x768x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v1 : Ref sig .tc := ⟨.hbm, 23, rfl⟩
abbrev main_v2 : Ref sig .tc := ⟨.hbm, 24, rfl⟩
abbrev main_cst : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_c_1 : Ref sig .tc := ⟨.hbm, 31, rfl⟩
abbrev main_call1_v0 : Ref sig .tc := ⟨.hbm, 32, rfl⟩
abbrev main_call1_v1 : Ref sig .tc := ⟨.hbm, 33, rfl⟩
abbrev main_v7 : Ref sig .tc := ⟨.hbm, 34, rfl⟩
abbrev main_c_2 : Ref sig .tc := ⟨.hbm, 35, rfl⟩
abbrev main_v8 : Ref sig .tc := ⟨.hbm, 36, rfl⟩
abbrev main_v9 : Ref sig .tc := ⟨.hbm, 37, rfl⟩
abbrev main_c_3 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_c_4 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_call2_cst : Ref sig .tc := ⟨.hbm, 70, rfl⟩
abbrev main_call2_v15 : Ref sig .tc := ⟨.hbm, 71, rfl⟩
abbrev main_v20 : Ref sig .tc := ⟨.hbm, 72, rfl⟩
abbrev main_v21 : Ref sig .tc := ⟨.hbm, 73, rfl⟩

abbrev nD : Nat := 1
abbrev τ : Topo := Topo.v7x

variable {F : FTy → Type} [FloatOps F]
-- ==== Proof.Setup.lean ====
/-
  What every module of this proof shares: the program as the launch theorem sees it (its labels, its body table, the
  handshakes' and transfers' resource algebra), the kernel's memrefs under short names, and the coordinates of a task.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Season

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the launch handshakes' rounds and the transfers' counters -/

abbrev UH : Type := URounds (GSem nD τ sig) ℕ
abbrev UU : Type := UH × Counters

abbrev EH : Emb UH (MT nD τ sig (HIx 1) (Elt F) ℕ UU ℕ) := embL

/-! ## The arrays and the scratch -/

/-- The kernel's operand `x` (batch, channel group, plane), its result, and the arrays `main` is given and returns. -/
abbrev xLoc (d : Dev nD) : Loc nD τ sig := (SparseCore.T d).loc main_v0
abbrev oLoc (d : Dev nD) : Loc nD τ sig := (SparseCore.T d).loc main_v1
abbrev aLoc (d : Dev nD) : Loc nD τ sig := (SparseCore.T d).loc main_arg0
abbrev rLoc (d : Dev nD) : Loc nD τ sig := (SparseCore.T d).loc main_v2

/-- The kernel's memrefs as the body table passes them. -/
abbrev xV : Memref Cert.KernelIdeal.sig Kind.scVector Space.hbm Cert.KernelIdeal.S32x32x13824 EltTy.f32 :=
  Memref.whole Cert.KernelIdeal.main_v0_scv
abbrev oV : Memref Cert.KernelIdeal.sig Kind.scVector Space.hbm Cert.KernelIdeal.S32x32x13824 EltTy.f32 :=
  Memref.whole Cert.KernelIdeal.main_v1_scv
abbrev bufV : Memref Cert.KernelIdeal.sig Kind.scVector Space.vmem Cert.KernelIdeal.S2x2x13824 EltTy.f32 :=
  Memref.whole Cert.KernelIdeal.cc0_scratch0
abbrev accV : Memref Cert.KernelIdeal.sig Kind.scVector Space.vmem Cert.KernelIdeal.S13824 EltTy.f32 :=
  Memref.whole Cert.KernelIdeal.cc0_scratch1

/-! ## A task's processor -/

abbrev cV (L : grid0.Coords) : Fin τ.nSC := (L 0).castLE hcore0
abbrev jV (L : grid0.Coords) : Fin τ.nSub := (L 1).castLE hsub0
/-- The thread that runs the task of coordinates `L` on device `d`. -/
abbrev thr (d : Dev nD) (L : grid0.Coords) : Thread nD τ := V d (cV L) (jV L)
abbrev TaskProg (F : FTy → Type) (L : grid0.Coords) (α : Type) : Type _ :=
  Prog (TpuEff nD τ sig (Elt F) Λ₀ (.scVector (cV L) (jV L))) α

end Cert.Proof.Season

end
-- ==== Proof.Pieces.lean ====
/-
  ONE CHUNK of the accumulation: the kernel adds to 16 lanes of the accumulator the same lanes of the two channel
  planes of a buffer slot (or, at the first group, stores their sum). `chunk` and `chunk₀` are those operations as the
  kernel's body spells them; the specifications move the accumulator from "the first n chunks are done" to "n + 1".
  `trip8` is a loop trip, eight chunks in a row.
-/
module

public import proofs.«01_k».proof.Proof.Setup
public import Idealize.ShloMosaic.Lib.Pointwise

@[expose] public section

noncomputable section

namespace Cert.Proof.Season

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The operations -/

abbrev InA (o : Fin 1 → ℕ) : Prop := ∀ a, o a + S16.size a ≤ S13824.size a
abbrev InB (o : Fin 3 → ℕ) : Prop := ∀ a, o a + S1x1x16.size a ≤ S2x2x13824.size a

variable (d : Dev nD) (L : grid0.Coords)

/-- Accumulate: read 16 lanes of the accumulator and of two rows of the buffer, and store `g` of them. -/
def chunk (oA : Fin 1 → ℕ) (hA : InA oA) (o0 : Fin 3 → ℕ) (h0 : InB o0) (o1 : Fin 3 → ℕ) (h1 : InB o1)
    (g : Vec F S16 .f32 → Vec F S1x1x16 .f32 → Vec F S1x1x16 .f32 → FVec F S16 .f32) : TaskProg F L PUnit := do
  let a : Vec F S16 .f32 ← Prog.lift (.load accV (Rect.unit (s := S13824) oA S16.size hA).toLoadRect (View.loadsAt_vmem h_S16))
  let u : Vec F S1x1x16 .f32 ← Prog.lift (.load bufV (Rect.unit (s := S2x2x13824) o0 S1x1x16.size h0).toLoadRect (View.loadsAt_vmem h_S1x1x16))
  let v : Vec F S1x1x16 .f32 ← Prog.lift (.load bufV (Rect.unit (s := S2x2x13824) o1 S1x1x16.size h1).toLoadRect (View.loadsAt_vmem h_S1x1x16))
  let _ : Vec F S16 .f32 ← Prog.lift (.load accV (Rect.unit (s := S13824) oA S16.size hA).toLoadRect (View.loadsAt_vmem h_S16))
  Prog.lift (.store accV (Rect.unit (s := S13824) oA S16.size hA) (g a u v) Finset.univ (View.stores_vmem_bits_univ h_S16 rfl) (.inl rfl))

/-- Start: store `g` of 16 lanes of two rows of the buffer. -/
def chunk₀ (oA : Fin 1 → ℕ) (hA : InA oA) (o0 : Fin 3 → ℕ) (h0 : InB o0) (o1 : Fin 3 → ℕ) (h1 : InB o1)
    (g : Vec F S1x1x16 .f32 → Vec F S1x1x16 .f32 → FVec F S16 .f32) : TaskProg F L PUnit := do
  let u : Vec F S1x1x16 .f32 ← Prog.lift (.load bufV (Rect.unit (s := S2x2x13824) o0 S1x1x16.size h0).toLoadRect (View.loadsAt_vmem h_S1x1x16))
  let v : Vec F S1x1x16 .f32 ← Prog.lift (.load bufV (Rect.unit (s := S2x2x13824) o1 S1x1x16.size h1).toLoadRect (View.loadsAt_vmem h_S1x1x16))
  let _ : Vec F S16 .f32 ← Prog.lift (.load accV (Rect.unit (s := S13824) oA S16.size hA).toLoadRect (View.loadsAt_vmem h_S16))
  Prog.lift (.store accV (Rect.unit (s := S13824) oA S16.size hA) (g u v) Finset.univ (View.stores_vmem_bits_univ h_S16 rfl) (.inl rfl))

/-- A loop trip: eight chunks, then the yield. -/
def trip8 (p : Fin 8 → TaskProg F L PUnit) : TaskProg F L Unit := do
  p 0; p 1; p 2; p 3; p 4; p 5; p 6; p 7
  pure ⟨⟩

/-! ## The accumulator's contents -/

/-- The first `n` chunks at `new`, the others still at `old`. -/
def mix (n : ℕ) (old new : S13824.Idx → F .f32) : S13824.Idx → F .f32 :=
  fun p => if (p 0).val < 16 * n then new p else old p

omit [FloatOps F] in
theorem mix_zero (old new : S13824.Idx → F .f32) : mix 0 old new = old := by
  funext p; simp [mix]
omit [FloatOps F] in
theorem mix_full (old new : S13824.Idx → F .f32) : mix 864 old new = new := by
  funext p
  have h : (p 0).val < 13824 := (p 0).isLt
  simp only [mix]
  rw [if_pos (by omega)]

/-- What a group's additions make of the accumulator `fa`: `op` of the element and the slot's two rows there. -/
def stepG (op : F .f32 → F .f32 → F .f32 → F .f32) (sl : Fin 2) (fs : S2x2x13824.Idx → F .f32) (fa : S13824.Idx → F .f32) :
    S13824.Idx → F .f32 :=
  fun p => op (fa p) (fs (ix3 sl 0 (p 0))) (fs (ix3 sl 1 (p 0)))

/-! ## Reading the windows -/

omit [FloatOps F] in
theorem read_acc (n : ℕ) (hA : InA ![16 * n]) (f : S13824.Idx → F .f32) (j : S16.Idx) (hj : 16 * n + (j 0).val < 13824) :
    (accV.access (Rect.unit (s := S13824) ![16 * n] S16.size hA)).read (Elt F) f j = f (ix1 ⟨16 * n + (j 0).val, hj⟩) := by
  refine congrArg f ?_
  funext a
  match a with
  | ⟨0, _⟩ => exact Fin.ext (by show 16 * n + 1 * (j 0).val = _; simp)
omit [FloatOps F] in
theorem read_buf (n : ℕ) (sl r : Fin 2) (h0 : InB ![sl.val, r.val, 16 * n]) (f : S2x2x13824.Idx → F .f32) (q : Fin 16) (hj : 16 * n + q.val < 13824) :
    (bufV.access (Rect.unit (s := S2x2x13824) ![sl.val, r.val, 16 * n] S1x1x16.size h0)).read (Elt F) f (ix3 0 0 q)
      = f (ix3 sl r ⟨16 * n + q.val, hj⟩) := by
  refine congrArg f ?_
  funext a
  match a with
  | ⟨0, _⟩ => exact Fin.ext (by show sl.val + 1 * 0 = _; simp)
  | ⟨1, _⟩ => exact Fin.ext (by show r.val + 1 * 0 = _; simp)
  | ⟨2, _⟩ => exact Fin.ext (by show 16 * n + 1 * q.val = _; simp)

omit [FloatOps F] in
theorem write_acc (n : ℕ) (hn : n < 864) (hA : InA ![16 * n]) (old new : S13824.Idx → F .f32) (w : S16.Idx → F .f32)
    (hw : ∀ (j : S16.Idx) (hj : 16 * n + (j 0).val < 13824), w j = new (ix1 ⟨16 * n + (j 0).val, hj⟩)) :
    (accV.access (Rect.unit (s := S13824) ![16 * n] S16.size hA)).write (Elt F) (mix n old new) w Finset.univ = mix (n + 1) old new := by
  funext p
  have hp : (p 0).val < 13824 := (p 0).isLt
  by_cases hin : 16 * n ≤ (p 0).val ∧ (p 0).val < 16 * (n + 1)
  · obtain ⟨j, rfl⟩ : ∃ j : S16.Idx, p = (accV.access (Rect.unit (s := S13824) ![16 * n] S16.size hA)).emb j := by
      refine ⟨ix1 (⟨(p 0).val - 16 * n, by omega⟩ : Fin 16), ?_⟩
      funext a
      match a with
      | ⟨0, _⟩ => exact Fin.ext (by show (p 0).val = 16 * n + 1 * ((p 0).val - 16 * n); omega)
    have hj : 16 * n + (j 0).val < 13824 := by have : (j 0).val < 16 := (j 0).isLt; omega
    rw [View.write_emb_of_mem _ _ (Finset.mem_univ j)]
    have e : (accV.access (Rect.unit (s := S13824) ![16 * n] S16.size hA)).emb j = ix1 ⟨16 * n + (j 0).val, hj⟩ := by
      funext a
      match a with
      | ⟨0, _⟩ => exact Fin.ext (by show 16 * n + 1 * (j 0).val = _; simp)
    rw [e]
    show w j = _
    rw [hw j hj]
    have : (j 0).val < 16 := (j 0).isLt
    simp only [mix]
    rw [if_pos (by show 16 * n + (j 0).val < _; omega)]
  · rw [View.write_of_not_mem]
    · simp only [mix]
      by_cases h : (p 0).val < 16 * n
      · rw [if_pos h, if_pos (by omega)]
      · rw [if_neg h, if_neg (by omega)]
    · rintro hmem
      obtain ⟨j, -, rfl⟩ := Finset.mem_map.mp hmem
      apply hin
      have : (j 0).val < 16 := (j 0).isLt
      constructor
      · show 16 * n ≤ 16 * n + 1 * (j 0).val; omega
      · show 16 * n + 1 * (j 0).val < _; omega

/-! ## The specifications -/

/-- The elements of the buffer in slot `sl`. -/
abbrev bufLoc : Loc nD τ sig := (thr d L).loc cc0_scratch0
abbrev accLoc : Loc nD τ sig := (thr d L).loc cc0_scratch1

/-- What a chunk runs on: a set of the buffer that has slot `sl`, and the accumulator. -/
abbrev held (Sb : Finset S2x2x13824.Idx) (fs : S2x2x13824.Idx → F .f32) (fa : S13824.Idx → F .f32) : sProp 𝕄 :=
  iprop((bufV.view.loc (thr d L) ↦[Sb]{fullShare} fs) ∗ (accV.view.loc (thr d L) ↦{fullShare} fa))

omit [FloatOps F] in
theorem sub_slot {sl r : Fin 2} {n : ℕ} {h0 : InB ![sl.val, r.val, 16 * n]} {Sb : Finset S2x2x13824.Idx}
    (hS : ∀ q : S2x2x13824.Idx, q 0 = sl → q ∈ Sb) :
    (bufV.access (Rect.unit (s := S2x2x13824) ![sl.val, r.val, 16 * n] S1x1x16.size h0)).set ⊆ Sb := by
  intro q hq
  obtain ⟨j, -, rfl⟩ := Finset.mem_map.mp hq
  apply hS
  have : (j 0).val < 1 := (j 0).isLt
  exact Fin.ext (by show sl.val + 1 * (j 0).val = _; omega)

/-- A load of the accumulator, a load of the buffer and a store to the accumulator, at the head of the task's program. -/
theorem load_acc {α : Type} {Q : α → sProp 𝕄} {r : Rect S13824} {hl} {k : (r.shape.Idx → F .f32) → TaskProg F L α} {f : S13824.Idx → F .f32} :
    (accV.view.loc (thr d L) ↦{fullShare} f : sProp 𝕄)
      ⊢ iprop(((accV.view.loc (thr d L) ↦{fullShare} f) -∗ wp frame (wpE (defs₀ (F := F)) 𝒱₀ (thr d L) none) Set.univ (k ((accV.access r).read (Elt F) f)) Q)
        -∗ wp frame (wpE (defs₀ (F := F)) 𝒱₀ (thr d L) none) Set.univ (Prog.op (.load accV r.toLoadRect hl) k) Q) :=
  wp_load_rect 𝒱₀ (thr d L) none Set.univ (m := accV) (r := r) (Finset.subset_univ _)

theorem load_buf {α : Type} {Q : α → sProp 𝕄} {r : Rect S2x2x13824} {hl} {k : (r.shape.Idx → F .f32) → TaskProg F L α} {f : S2x2x13824.Idx → F .f32}
    {Sb : Finset S2x2x13824.Idx} (hS : (bufV.access r).set ⊆ Sb) :
    (bufV.view.loc (thr d L) ↦[Sb]{fullShare} f : sProp 𝕄)
      ⊢ iprop(((bufV.view.loc (thr d L) ↦[Sb]{fullShare} f) -∗ wp frame (wpE (defs₀ (F := F)) 𝒱₀ (thr d L) none) Set.univ (k ((bufV.access r).read (Elt F) f)) Q)
        -∗ wp frame (wpE (defs₀ (F := F)) 𝒱₀ (thr d L) none) Set.univ (Prog.op (.load bufV r.toLoadRect hl) k) Q) :=
  wp_load_rect 𝒱₀ (thr d L) none Set.univ (m := bufV) (r := r) hS

theorem store_acc {α : Type} {Q : α → sProp 𝕄} {r : Rect S13824} {hx hm} {w : r.shape.Idx → F .f32} {k : PUnit → TaskProg F L α} {f : S13824.Idx → F .f32} :
    (accV.view.loc (thr d L) ↦{fullShare} f : sProp 𝕄)
      ⊢ iprop(((accV.view.loc (thr d L) ↦{fullShare} (accV.access r).write (Elt F) f w Finset.univ)
            -∗ wp frame (wpE (defs₀ (F := F)) 𝒱₀ (thr d L) none) Set.univ (k ⟨⟩) Q)
        -∗ wp frame (wpE (defs₀ (F := F)) 𝒱₀ (thr d L) none) Set.univ (Prog.op (.store accV r w Finset.univ hx hm) k) Q) :=
  wp_store 𝒱₀ (thr d L) none Set.univ (m := accV) (r := r) (Finset.subset_univ _)

/-- What a chunk stores is the group's value at its lanes. -/
theorem chunk_val {sl : Fin 2} {n : ℕ} (hn : n < 864) {hA : InA ![16 * n]} {h0 : InB ![sl.val, (0 : Fin 2).val, 16 * n]} {h1 : InB ![sl.val, (1 : Fin 2).val, 16 * n]}
    {op : F .f32 → F .f32 → F .f32 → F .f32} (fs : S2x2x13824.Idx → F .f32) (fa : S13824.Idx → F .f32) (j : S16.Idx) (hj : 16 * n + (j 0).val < 13824) :
    op ((accV.access (Rect.unit (s := S13824) ![16 * n] S16.size hA)).read (Elt F) (mix n fa (stepG op sl fs fa)) j)
        ((bufV.access (Rect.unit (s := S2x2x13824) ![sl.val, (0 : Fin 2).val, 16 * n] S1x1x16.size h0)).read (Elt F) fs (ix3 0 0 (j 0)))
        ((bufV.access (Rect.unit (s := S2x2x13824) ![sl.val, (1 : Fin 2).val, 16 * n] S1x1x16.size h1)).read (Elt F) fs (ix3 0 0 (j 0)))
      = stepG op sl fs fa (ix1 ⟨16 * n + (j 0).val, hj⟩) := by
  rw [read_acc n hA _ j hj, read_buf n sl 0 h0 fs (j 0) hj, read_buf n sl 1 h1 fs (j 0) hj]
  simp only [mix]
  rw [if_neg (by show ¬ (16 * n + (j 0).val < 16 * n); omega)]
  rfl

theorem chunk_spec {sl : Fin 2} {n : ℕ} (hn : n < 864) {oA : Fin 1 → ℕ} {hA : InA oA} {o0 : Fin 3 → ℕ} {h0 : InB o0} {o1 : Fin 3 → ℕ} {h1 : InB o1}
    {g : Vec F S16 .f32 → Vec F S1x1x16 .f32 → Vec F S1x1x16 .f32 → FVec F S16 .f32} {op : F .f32 → F .f32 → F .f32 → F .f32}
    (hg : ∀ a u v j, g a u v j = op (a j) (u (ix3 0 0 (j 0))) (v (ix3 0 0 (j 0))))
    (eA : oA = ![16 * n]) (e0 : o0 = ![sl.val, 0, 16 * n]) (e1 : o1 = ![sl.val, 1, 16 * n])
    {Sb : Finset S2x2x13824.Idx} (hS : ∀ q : S2x2x13824.Idx, q 0 = sl → q ∈ Sb) (fs : S2x2x13824.Idx → F .f32) (fa : S13824.Idx → F .f32) :
    held d L Sb fs (mix n fa (stepG op sl fs fa))
      ⊢ wp frame (wpE (defs₀ (F := F)) 𝒱₀ (thr d L) none) Set.univ (chunk L oA hA o0 h0 o1 h1 g)
          fun _ => held d L Sb fs (mix (n + 1) fa (stepG op sl fs fa)) := by
  subst eA e0 e1
  show _ ⊢ wp _ _ _ (Prog.op _ fun _ => Prog.op _ fun _ => Prog.op _ fun _ => Prog.op _ fun _ => Prog.op _ fun _ => Prog.ret _) _
  iintro ⟨Hb, Ha⟩
  iapply (load_acc d L) $$ Ha
  iintro Ha
  iapply (load_buf d L (sub_slot (r := 0) hS)) $$ Hb
  iintro Hb
  iapply (load_buf d L (sub_slot (r := 1) hS)) $$ Hb
  iintro Hb
  iapply (load_acc d L) $$ Ha
  iintro Ha
  iapply (store_acc d L) $$ Ha
  iintro Ha
  rw [write_acc n hn hA _ _ _ fun j hj => (hg _ _ _ j).trans (chunk_val hn (hA := hA) (h0 := h0) (h1 := h1) fs fa j hj)]
  sl_step
  isplitl [Hb]; · iexact Hb
  iexact Ha

theorem chunk₀_spec {sl : Fin 2} {n : ℕ} (hn : n < 864) {oA : Fin 1 → ℕ} {hA : InA oA} {o0 : Fin 3 → ℕ} {h0 : InB o0} {o1 : Fin 3 → ℕ} {h1 : InB o1}
    {g : Vec F S1x1x16 .f32 → Vec F S1x1x16 .f32 → FVec F S16 .f32} {op : F .f32 → F .f32 → F .f32}
    (hg : ∀ u v j, g u v j = op (u (ix3 0 0 (j 0))) (v (ix3 0 0 (j 0))))
    (eA : oA = ![16 * n]) (e0 : o0 = ![sl.val, 0, 16 * n]) (e1 : o1 = ![sl.val, 1, 16 * n])
    {Sb : Finset S2x2x13824.Idx} (hS : ∀ q : S2x2x13824.Idx, q 0 = sl → q ∈ Sb) (fs : S2x2x13824.Idx → F .f32) (fa : S13824.Idx → F .f32) :
    held d L Sb fs (mix n fa (stepG (fun _ => op) sl fs fa))
      ⊢ wp frame (wpE (defs₀ (F := F)) 𝒱₀ (thr d L) none) Set.univ (chunk₀ L oA hA o0 h0 o1 h1 g)
          fun _ => held d L Sb fs (mix (n + 1) fa (stepG (fun _ => op) sl fs fa)) := by
  subst eA e0 e1
  show _ ⊢ wp _ _ _ (Prog.op _ fun _ => Prog.op _ fun _ => Prog.op _ fun _ => Prog.op _ fun _ => Prog.ret _) _
  iintro ⟨Hb, Ha⟩
  iapply (load_buf d L (sub_slot (r := 0) hS)) $$ Hb
  iintro Hb
  iapply (load_buf d L (sub_slot (r := 1) hS)) $$ Hb
  iintro Hb
  iapply (load_acc d L) $$ Ha
  iintro Ha
  iapply (store_acc d L) $$ Ha
  iintro Ha
  rw [write_acc n hn hA _ _ _ fun j hj => (hg _ _ j).trans (chunk_val (op := fun _ => op) hn (hA := hA) (h0 := h0) (h1 := h1) fs fa j hj)]
  sl_step
  isplitl [Hb]; · iexact Hb
  iexact Ha

/-- Eight chunks that each move `I n` on by one move it on by eight. -/
theorem trip8_spec {p : Fin 8 → TaskProg F L PUnit} {I : ℕ → sProp 𝕄} {n : ℕ}
    (h : ∀ r : Fin 8, I (n + r.val) ⊢ wp frame (wpE (defs₀ (F := F)) 𝒱₀ (thr d L) none) Set.univ (p r) fun _ => I (n + r.val + 1)) :
    I n ⊢ wp frame (wpE (defs₀ (F := F)) 𝒱₀ (thr d L) none) Set.univ (trip8 L p) fun _ => I (n + 8) := by
  unfold trip8
  simp only [wp_bind]
  refine (h 0).trans (wp_mono _ _ _ fun _ => ?_)
  refine (h 1).trans (wp_mono _ _ _ fun _ => ?_)
  refine (h 2).trans (wp_mono _ _ _ fun _ => ?_)
  refine (h 3).trans (wp_mono _ _ _ fun _ => ?_)
  refine (h 4).trans (wp_mono _ _ _ fun _ => ?_)
  refine (h 5).trans (wp_mono _ _ _ fun _ => ?_)
  refine (h 6).trans (wp_mono _ _ _ fun _ => ?_)
  refine (h 7).trans (wp_mono _ _ _ fun _ => ?_)
  rw [wp_pure]
  exact fupd_intro

/-! ## The payloads, lane by lane -/

omit [FloatOps F] in
theorem cast16 (x : Vec F S16 .f32) : shapeCast S16 x shapeCasts_S16_S16 = x := shapeCast_id _ _
omit [FloatOps F] in
theorem cast1x1x16 (x : Vec F S1x1x16 .f32) (j : S16.Idx) : shapeCast S16 x shapeCasts_S1x1x16_S16 j = x (ix3 0 0 (j 0)) := by
  pointwise

/-- The three groups' values at an element: the first group's, a middle one's, the last one's scaled by `cst`. -/
def op₀ (u v : F .f32) : F .f32 := FloatOps.addf u v
def opA (a u v : F .f32) : F .f32 := FloatOps.addf (FloatOps.addf a u) v
def opZ (cst : F .f32) (a u v : F .f32) : F .f32 := FloatOps.mulf (opA a u v) cst

theorem pay₀ (u v : Vec F S1x1x16 .f32) (j : S16.Idx) : k0_pay1 u v j = op₀ (u (ix3 0 0 (j 0))) (v (ix3 0 0 (j 0))) := by
  unfold k0_pay1 op₀
  rw [cast16, ← cast1x1x16 u j, ← cast1x1x16 v j]; rfl
theorem payA (a : Vec F S16 .f32) (u v : Vec F S1x1x16 .f32) (j : S16.Idx) :
    k0_pay8 a u v j = opA (a j) (u (ix3 0 0 (j 0))) (v (ix3 0 0 (j 0))) := by
  unfold k0_pay8 opA
  rw [cast16, cast16, ← cast1x1x16 u j, ← cast1x1x16 v j]; rfl
theorem payZ (cst : F .f32) (a : Vec F S16 .f32) (u v : Vec F S1x1x16 .f32) (j : S16.Idx) :
    k0_pay171 cst a u v j = opZ cst (a j) (u (ix3 0 0 (j 0))) (v (ix3 0 0 (j 0))) := by
  unfold k0_pay171 opZ opA
  rw [cast16, cast16, ← cast1x1x16 u j, ← cast1x1x16 v j]; rfl

end Cert.Proof.Season

end
-- ==== Proof.Loops.lean ====
/-
  THE SIXTEEN LOOPS: each goes over the accumulator in 108 trips of eight chunks. A loop's region is `trip8` of its
  chunks (definitional unfolding), its invariant says that the chunks of the trips before `k` are done, and it leaves
  the accumulator at the group's value (`stepG`). The loops differ in the slot they read and in the offsets' names, so
  each is one use of `chunk_step`.
-/
module

public import proofs.«01_k».proof.Proof.Pieces

@[expose] public section

set_option warn.classDefReducibility false

noncomputable section

namespace Cert.Proof.Season

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## A buffer slot, as the kernel's transfers address it -/

abbrev slot0 : Memref Cert.KernelIdeal.sig Kind.scVector Space.vmem Cert.KernelIdeal.S2x13824 EltTy.f32 :=
  (bufV.slice (Rect.unit (s := S2x2x13824) ![0, 0, 0] S1x2x13824.size inb_S2x2x13824_S1x2x13824_0_0_0) (fun _ => rfl)).squeeze S2x13824 squeezes_S1x2x13824_S2x13824
abbrev slot1 : Memref Cert.KernelIdeal.sig Kind.scVector Space.vmem Cert.KernelIdeal.S2x13824 EltTy.f32 :=
  (bufV.slice (Rect.unit (s := S2x2x13824) ![1, 0, 0] S1x2x13824.size inb_S2x2x13824_S1x2x13824_1_0_0) (fun _ => rfl)).squeeze S2x13824 squeezes_S1x2x13824_S2x13824

theorem mem_slot0 (q : S2x2x13824.Idx) : q 0 = (0 : Fin 2) → q ∈ (slot0).view.set := by
  intro h
  show q ∈ ((bufV.view.slice (Rect.unit (s := S2x2x13824) ![0, 0, 0] S1x2x13824.size inb_S2x2x13824_S1x2x13824_0_0_0)).reshape S2x13824
    squeezes_S1x2x13824_S2x13824.numel_eq).set
  rw [View.set_reshape]
  refine Finset.mem_map.mpr ⟨ix3 0 (q 1) (q 2), Finset.mem_univ _, ?_⟩
  funext a
  match a with
  | ⟨0, _⟩ => exact Fin.ext (by show 0 + 1 * 0 = (q 0).val; rw [h]; rfl)
  | ⟨1, _⟩ => exact Fin.ext (by show 0 + 1 * (q 1).val = (q 1).val; omega)
  | ⟨2, _⟩ => exact Fin.ext (by show 0 + 1 * (q 2).val = (q 2).val; omega)
theorem mem_slot1 (q : S2x2x13824.Idx) : q 0 = (1 : Fin 2) → q ∈ (slot1).view.set := by
  intro h
  show q ∈ ((bufV.view.slice (Rect.unit (s := S2x2x13824) ![1, 0, 0] S1x2x13824.size inb_S2x2x13824_S1x2x13824_1_0_0)).reshape S2x13824
    squeezes_S1x2x13824_S2x13824.numel_eq).set
  rw [View.set_reshape]
  refine Finset.mem_map.mpr ⟨ix3 0 (q 1) (q 2), Finset.mem_univ _, ?_⟩
  funext a
  match a with
  | ⟨0, _⟩ => exact Fin.ext (by show 1 + 1 * 0 = (q 0).val; rw [h]; rfl)
  | ⟨1, _⟩ => exact Fin.ext (by show 0 + 1 * (q 1).val = (q 1).val; omega)
  | ⟨2, _⟩ => exact Fin.ext (by show 0 + 1 * (q 2).val = (q 2).val; omega)

/-! ## One trip of any of the loops -/

/-- The accumulator before trip `k`. -/
@[reducible] def mixT (k : ℕ) (fa new : S13824.Idx → F .f32) : S13824.Idx → F .f32 :=
  match k with
  | 0 => fa
  | k + 1 => mix (8 * (k + 1)) fa new

omit [FloatOps F] in
theorem mixT_eq (k : ℕ) (fa new : S13824.Idx → F .f32) : mixT k fa new = mix (8 * k) fa new := by
  cases k with
  | zero => exact (mix_zero fa new).symm
  | succ k => rfl

omit [FloatOps F] in
theorem mixT_full {N : ℕ} (h : N = 108) (fa new : S13824.Idx → F .f32) : mixT N fa new = new := by
  subst h; exact mix_full fa new

theorem chunk_step {sl : Fin 2} {k : ℕ} (hk : k < 108) {oA : Fin 8 → Fin 1 → ℕ} {hA : ∀ r, InA (oA r)} {o0 : Fin 8 → Fin 3 → ℕ} {h0 : ∀ r, InB (o0 r)}
    {o1 : Fin 8 → Fin 3 → ℕ} {h1 : ∀ r, InB (o1 r)}
    {g : Vec F S16 .f32 → Vec F S1x1x16 .f32 → Vec F S1x1x16 .f32 → FVec F S16 .f32} {op : F .f32 → F .f32 → F .f32 → F .f32}
    (hg : ∀ a u v j, g a u v j = op (a j) (u (ix3 0 0 (j 0))) (v (ix3 0 0 (j 0))))
    (eA : ∀ r, oA r = ![128 * k + 16 * r.val]) (e0 : ∀ r, o0 r = ![sl.val, 0, 128 * k + 16 * r.val])
    (e1 : ∀ r, o1 r = ![sl.val, 1, 128 * k + 16 * r.val])
    {Sb : Finset S2x2x13824.Idx} (hS : ∀ q : S2x2x13824.Idx, q 0 = sl → q ∈ Sb) (fs : S2x2x13824.Idx → F .f32) (fa : S13824.Idx → F .f32) :
    held d L Sb fs (mixT k fa (stepG op sl fs fa))
      ⊢ wp frame (wpE (defs₀ (F := F)) 𝒱₀ (thr d L) none) Set.univ
          (trip8 L fun r => chunk L (oA r) (hA r) (o0 r) (h0 r) (o1 r) (h1 r) g)
          fun _ => held d L Sb fs (mixT (k + 1) fa (stepG op sl fs fa)) := by
  rw [mixT_eq, mixT_eq]
  refine trip8_spec d L (I := fun n => held d L Sb fs (mix n fa (stepG op sl fs fa))) (n := 8 * k) fun r => ?_
  have hr := r.isLt
  have e : 128 * k + 16 * r.val = 16 * (8 * k + r.val) := by omega
  exact chunk_spec d L (by omega) hg ((eA r).trans (by rw [e])) ((e0 r).trans (by rw [e])) ((e1 r).trans (by rw [e])) hS fs fa

theorem chunk₀_step {sl : Fin 2} {k : ℕ} (hk : k < 108) {oA : Fin 8 → Fin 1 → ℕ} {hA : ∀ r, InA (oA r)} {o0 : Fin 8 → Fin 3 → ℕ} {h0 : ∀ r, InB (o0 r)}
    {o1 : Fin 8 → Fin 3 → ℕ} {h1 : ∀ r, InB (o1 r)}
    {g : Vec F S1x1x16 .f32 → Vec F S1x1x16 .f32 → FVec F S16 .f32} {op : F .f32 → F .f32 → F .f32}
    (hg : ∀ u v j, g u v j = op (u (ix3 0 0 (j 0))) (v (ix3 0 0 (j 0))))
    (eA : ∀ r, oA r = ![128 * k + 16 * r.val]) (e0 : ∀ r, o0 r = ![sl.val, 0, 128 * k + 16 * r.val])
    (e1 : ∀ r, o1 r = ![sl.val, 1, 128 * k + 16 * r.val])
    {Sb : Finset S2x2x13824.Idx} (hS : ∀ q : S2x2x13824.Idx, q 0 = sl → q ∈ Sb) (fs : S2x2x13824.Idx → F .f32) (fa : S13824.Idx → F .f32) :
    held d L Sb fs (mixT k fa (stepG (fun _ => op) sl fs fa))
      ⊢ wp frame (wpE (defs₀ (F := F)) 𝒱₀ (thr d L) none) Set.univ
          (trip8 L fun r => chunk₀ L (oA r) (hA r) (o0 r) (h0 r) (o1 r) (h1 r) g)
          fun _ => held d L Sb fs (mixT (k + 1) fa (stepG (fun _ => op) sl fs fa)) := by
  rw [mixT_eq, mixT_eq]
  refine trip8_spec d L (I := fun n => held d L Sb fs (mix n fa (stepG (fun _ => op) sl fs fa))) (n := 8 * k) fun r => ?_
  have hr := r.isLt
  have e : 128 * k + 16 * r.val = 16 * (8 * k + r.val) := by omega
  exact chunk₀_spec d L (by omega) hg ((eA r).trans (by rw [e])) ((e0 r).trans (by rw [e])) ((e1 r).trans (by rw [e])) hS fs fa

/-! ## The loops -/

/-- What a loop holds: one slot, under the name the transfers into it use, and the accumulator. -/
abbrev held0 (fs : S2x2x13824.Idx → F .f32) (fa : S13824.Idx → F .f32) : sProp 𝕄 :=
  iprop((slot0.view.loc (thr d L) ↦[slot0.view.set]{fullShare} fs) ∗ (accV.view.loc (thr d L) ↦{fullShare} fa))
abbrev held1 (fs : S2x2x13824.Idx → F .f32) (fa : S13824.Idx → F .f32) : sProp 𝕄 :=
  iprop((slot1.view.loc (thr d L) ↦[slot1.view.set]{fullShare} fs) ∗ (accV.view.loc (thr d L) ↦{fullShare} fa))

/-- The constant 1/32 the last group scales by. -/
abbrev c32 : F .f32 := Scalar.ofBits .f32 0x3D000000#32

abbrev hw (b : Ref Cert.KernelIdeal.sig Kind.scVector) : (Memref.whole b).IsWhole := Memref.isWhole_whole b

theorem body1_eq (k : Fin k0_t1_loop.trips) (u : Unit) :
    (k0_t1_body (F := F) L xV (hw _) oV (hw _) bufV (hw _) accV (hw _) cc0_scratch2 cc0_scratch3 cc0_scratch4 0#32) k u
      = trip8 L fun r => chunk₀ L (k0_off5 k (BitVec.ofNat 32 r.val)) (k0_off5_inb k r) (k0_off3 k (BitVec.ofNat 32 r.val)) (k0_off3_inb k r)
          (k0_off4 k (BitVec.ofNat 32 r.val)) (k0_off4_inb k r) k0_pay1 := rfl
@[sl_loop] def loop1 (fs : S2x2x13824.Idx → F .f32) (fa : S13824.Idx → F .f32) :
    LoopInv (M := 𝕄) frame (wpE (defs₀ (F := F)) 𝒱₀ (thr d L) none) Set.univ k0_t1_loop.lb k0_t1_loop.ub k0_t1_loop.st k0_t1_ok ()
      (k0_t1_body (F := F) L xV (hw _) oV (hw _) bufV (hw _) accV (hw _) cc0_scratch2 cc0_scratch3 cc0_scratch4 0#32) where
  inv k _ := held0 d L fs (mixT k fa (stepG (fun _ => op₀) 0 fs fa))
  step k u := by
    rw [body1_eq]
    exact chunk₀_step d L (sl := 0) k.isLt pay₀ (k0_off5_eq k) (k0_off3_eq k) (k0_off4_eq k) mem_slot0 fs fa
instance loop1_exit (fs : S2x2x13824.Idx → F .f32) (fa : S13824.Idx → F .f32) : LoopExit (loop1 (F := F) d L fs fa) where
  post _ := held0 d L fs (stepG (fun _ => op₀) 0 fs fa)
  exit _ := Entails.of_eq (congrArg (held0 d L fs) (mixT_full (show k0_t1_loop.trips = 108 from rfl) fa _))

theorem body2_eq (k : Fin k0_t2_loop.trips) (u : Unit) :
    (k0_t2_body (F := F) L xV (hw _) oV (hw _) bufV (hw _) accV (hw _) cc0_scratch2 cc0_scratch3 cc0_scratch4 0#32) k u
      = trip8 L fun r => chunk L (k0_off7 k (BitVec.ofNat 32 r.val)) (k0_off7_inb k r) (k0_off8 k (BitVec.ofNat 32 r.val)) (k0_off8_inb k r)
          (k0_off9 k (BitVec.ofNat 32 r.val)) (k0_off9_inb k r) k0_pay8 := rfl
@[sl_loop] def loop2 (fs : S2x2x13824.Idx → F .f32) (fa : S13824.Idx → F .f32) :
    LoopInv (M := 𝕄) frame (wpE (defs₀ (F := F)) 𝒱₀ (thr d L) none) Set.univ k0_t2_loop.lb k0_t2_loop.ub k0_t2_loop.st k0_t2_ok ()
      (k0_t2_body (F := F) L xV (hw _) oV (hw _) bufV (hw _) accV (hw _) cc0_scratch2 cc0_scratch3 cc0_scratch4 0#32) where
  inv k _ := held1 d L fs (mixT k fa (stepG opA 1 fs fa))
  step k u := by
    rw [body2_eq]
    exact chunk_step d L (sl := 1) k.isLt payA (k0_off7_eq k) (k0_off8_eq k) (k0_off9_eq k) mem_slot1 fs fa
instance loop2_exit (fs : S2x2x13824.Idx → F .f32) (fa : S13824.Idx → F .f32) : LoopExit (loop2 (F := F) d L fs fa) where
  post _ := held1 d L fs (stepG opA 1 fs fa)
  exit _ := Entails.of_eq (congrArg (held1 d L fs) (mixT_full (show k0_t2_loop.trips = 108 from rfl) fa _))

theorem body3_eq (k : Fin k0_t3_loop.trips) (u : Unit) :
    (k0_t3_body (F := F) L xV (hw _) oV (hw _) bufV (hw _) accV (hw _) cc0_scratch2 cc0_scratch3 cc0_scratch4) k u
      = trip8 L fun r => chunk L (k0_off11 k (BitVec.ofNat 32 r.val)) (k0_off11_inb k r) (k0_off12 k (BitVec.ofNat 32 r.val)) (k0_off12_inb k r)
          (k0_off13 k (BitVec.ofNat 32 r.val)) (k0_off13_inb k r) k0_pay8 := rfl
@[sl_loop] def loop3 (fs : S2x2x13824.Idx → F .f32) (fa : S13824.Idx → F .f32) :
    LoopInv (M := 𝕄) frame (wpE (defs₀ (F := F)) 𝒱₀ (thr d L) none) Set.univ k0_t3_loop.lb k0_t3_loop.ub k0_t3_loop.st k0_t3_ok ()
      (k0_t3_body (F := F) L xV (hw _) oV (hw _) bufV (hw _) accV (hw _) cc0_scratch2 cc0_scratch3 cc0_scratch4) where
  inv k _ := held0 d L fs (mixT k fa (stepG opA 0 fs fa))
  step k u := by
    rw [body3_eq]
    exact chunk_step d L (sl := 0) k.isLt payA (k0_off11_eq k) (k0_off12_eq k) (k0_off13_eq k) mem_slot0 fs fa
instance loop3_exit (fs : S2x2x13824.Idx → F .f32) (fa : S13824.Idx → F .f32) : LoopExit (loop3 (F := F) d L fs fa) where
  post _ := held0 d L fs (stepG opA 0 fs fa)
  exit _ := Entails.of_eq (congrArg (held0 d L fs) (mixT_full (show k0_t3_loop.trips = 108 from rfl) fa _))

theorem body4_eq (k : Fin k0_t4_loop.trips) (u : Unit) :
    (k0_t4_body (F := F) L xV (hw _) oV (hw _) bufV (hw _) accV (hw _) cc0_scratch2 cc0_scratch3 cc0_scratch4) k u
      = trip8 L fun r => chunk L (k0_off15 k (BitVec.ofNat 32 r.val)) (k0_off15_inb k r) (k0_off16 k (BitVec.ofNat 32 r.val)) (k0_off16_inb k r)
          (k0_off17 k (BitVec.ofNat 32 r.val)) (k0_off17_inb k r) k0_pay8 := rfl
@[sl_loop] def loop4 (fs : S2x2x13824.Idx → F .f32) (fa : S13824.Idx → F .f32) :
    LoopInv (M := 𝕄) frame (wpE (defs₀ (F := F)) 𝒱₀ (thr d L) none) Set.univ k0_t4_loop.lb k0_t4_loop.ub k0_t4_loop.st k0_t4_ok ()
      (k0_t4_body (F := F) L xV (hw _) oV (hw _) bufV (hw _) accV (hw _) cc0_scratch2 cc0_scratch3 cc0_scratch4) where
  inv k _ := held1 d L fs (mixT k fa (stepG opA 1 fs fa))
  step k u := by
    rw [body4_eq]
    exact chunk_step d L (sl := 1) k.isLt payA (k0_off15_eq k) (k0_off16_eq k) (k0_off17_eq k) mem_slot1 fs fa
instance loop4_exit (fs : S2x2x13824.Idx → F .f32) (fa : S13824.Idx → F .f32) : LoopExit (loop4 (F := F) d L fs fa) where
  post _ := held1 d L fs (stepG opA 1 fs fa)
  exit _ := Entails.of_eq (congrArg (held1 d L fs) (mixT_full (show k0_t4_loop.trips = 108 from rfl) fa _))

theorem body5_eq (k : Fin k0_t5_loop.trips) (u : Unit) :
    (k0_t5_body (F := F) L xV (hw _) oV (hw _) bufV (hw _) accV (hw _) cc0_scratch2 cc0_scratch3 cc0_scratch4) k u
      = trip8 L fun r => chunk L (k0_off19 k (BitVec.ofNat 32 r.val)) (k0_off19_inb k r) (k0_off20 k (BitVec.ofNat 32 r.val)) (k0_off20_inb k r)
          (k0_off21 k (BitVec.ofNat 32 r.val)) (k0_off21_inb k r) k0_pay8 := rfl
@[sl_loop] def loop5 (fs : S2x2x13824.Idx → F .f32) (fa : S13824.Idx → F .f32) :
    LoopInv (M := 𝕄) frame (wpE (defs₀ (F := F)) 𝒱₀ (thr d L) none) Set.univ k0_t5_loop.lb k0_t5_loop.ub k0_t5_loop.st k0_t5_ok ()
      (k0_t5_body (F := F) L xV (hw _) oV (hw _) bufV (hw _) accV (hw _) cc0_scratch2 cc0_scratch3 cc0_scratch4) where
  inv k _ := held0 d L fs (mixT k fa (stepG opA 0 fs fa))
  step k u := by
    rw [body5_eq]
    exact chunk_step d L (sl := 0) k.isLt payA (k0_off19_eq k) (k0_off20_eq k) (k0_off21_eq k) mem_slot0 fs fa
instance loop5_exit (fs : S2x2x13824.Idx → F .f32) (fa : S13824.Idx → F .f32) : LoopExit (loop5 (F := F) d L fs fa) where
  post _ := held0 d L fs (stepG opA 0 fs fa)
  exit _ := Entails.of_eq (congrArg (held0 d L fs) (mixT_full (show k0_t5_loop.trips = 108 from rfl) fa _))

theorem body6_eq (k : Fin k0_t6_loop.trips) (u : Unit) :
    (k0_t6_body (F := F) L xV (hw _) oV (hw _) bufV (hw _) accV (hw _) cc0_scratch2 cc0_scratch3 cc0_scratch4) k u
      = trip8 L fun r => chunk L (k0_off23 k (BitVec.ofNat 32 r.val)) (k0_off23_inb k r) (k0_off24 k (BitVec.ofNat 32 r.val)) (k0_off24_inb k r)
          (k0_off25 k (BitVec.ofNat 32 r.val)) (k0_off25_inb k r) k0_pay8 := rfl
@[sl_loop] def loop6 (fs : S2x2x13824.Idx → F .f32) (fa : S13824.Idx → F .f32) :
    LoopInv (M := 𝕄) frame (wpE (defs₀ (F := F)) 𝒱₀ (thr d L) none) Set.univ k0_t6_loop.lb k0_t6_loop.ub k0_t6_loop.st k0_t6_ok ()
      (k0_t6_body (F := F) L xV (hw _) oV (hw _) bufV (hw _) accV (hw _) cc0_scratch2 cc0_scratch3 cc0_scratch4) where
  inv k _ := held1 d L fs (mixT k fa (stepG opA 1 fs fa))
  step k u := by
    rw [body6_eq]
    exact chunk_step d L (sl := 1) k.isLt payA (k0_off23_eq k) (k0_off24_eq k) (k0_off25_eq k) mem_slot1 fs fa
instance loop6_exit (fs : S2x2x13824.Idx → F .f32) (fa : S13824.Idx → F .f32) : LoopExit (loop6 (F := F) d L fs fa) where
  post _ := held1 d L fs (stepG opA 1 fs fa)
  exit _ := Entails.of_eq (congrArg (held1 d L fs) (mixT_full (show k0_t6_loop.trips = 108 from rfl) fa _))

theorem body7_eq (k : Fin k0_t7_loop.trips) (u : Unit) :
    (k0_t7_body (F := F) L xV (hw _) oV (hw _) bufV (hw _) accV (hw _) cc0_scratch2 cc0_scratch3 cc0_scratch4) k u
      = trip8 L fun r => chunk L (k0_off27 k (BitVec.ofNat 32 r.val)) (k0_off27_inb k r) (k0_off28 k (BitVec.ofNat 32 r.val)) (k0_off28_inb k r)
          (k0_off29 k (BitVec.ofNat 32 r.val)) (k0_off29_inb k r) k0_pay8 := rfl
@[sl_loop] def loop7 (fs : S2x2x13824.Idx → F .f32) (fa : S13824.Idx → F .f32) :
    LoopInv (M := 𝕄) frame (wpE (defs₀ (F := F)) 𝒱₀ (thr d L) none) Set.univ k0_t7_loop.lb k0_t7_loop.ub k0_t7_loop.st k0_t7_ok ()
      (k0_t7_body (F := F) L xV (hw _) oV (hw _) bufV (hw _) accV (hw _) cc0_scratch2 cc0_scratch3 cc0_scratch4) where
  inv k _ := held0 d L fs (mixT k fa (stepG opA 0 fs fa))
  step k u := by
    rw [body7_eq]
    exact chunk_step d L (sl := 0) k.isLt payA (k0_off27_eq k) (k0_off28_eq k) (k0_off29_eq k) mem_slot0 fs fa
instance loop7_exit (fs : S2x2x13824.Idx → F .f32) (fa : S13824.Idx → F .f32) : LoopExit (loop7 (F := F) d L fs fa) where
  post _ := held0 d L fs (stepG opA 0 fs fa)
  exit _ := Entails.of_eq (congrArg (held0 d L fs) (mixT_full (show k0_t7_loop.trips = 108 from rfl) fa _))

theorem body8_eq (k : Fin k0_t8_loop.trips) (u : Unit) :
    (k0_t8_body (F := F) L xV (hw _) oV (hw _) bufV (hw _) accV (hw _) cc0_scratch2 cc0_scratch3 cc0_scratch4) k u
      = trip8 L fun r => chunk L (k0_off31 k (BitVec.ofNat 32 r.val)) (k0_off31_inb k r) (k0_off32 k (BitVec.ofNat 32 r.val)) (k0_off32_inb k r)
          (k0_off33 k (BitVec.ofNat 32 r.val)) (k0_off33_inb k r) k0_pay8 := rfl
@[sl_loop] def loop8 (fs : S2x2x13824.Idx → F .f32) (fa : S13824.Idx → F .f32) :
    LoopInv (M := 𝕄) frame (wpE (defs₀ (F := F)) 𝒱₀ (thr d L) none) Set.univ k0_t8_loop.lb k0_t8_loop.ub k0_t8_loop.st k0_t8_ok ()
      (k0_t8_body (F := F) L xV (hw _) oV (hw _) bufV (hw _) accV (hw _) cc0_scratch2 cc0_scratch3 cc0_scratch4) where
  inv k _ := held1 d L fs (mixT k fa (stepG opA 1 fs fa))
  step k u := by
    rw [body8_eq]
    exact chunk_step d L (sl := 1) k.isLt payA (k0_off31_eq k) (k0_off32_eq k) (k0_off33_eq k) mem_slot1 fs fa
instance loop8_exit (fs : S2x2x13824.Idx → F .f32) (fa : S13824.Idx → F .f32) : LoopExit (loop8 (F := F) d L fs fa) where
  post _ := held1 d L fs (stepG opA 1 fs fa)
  exit _ := Entails.of_eq (congrArg (held1 d L fs) (mixT_full (show k0_t8_loop.trips = 108 from rfl) fa _))

theorem body9_eq (k : Fin k0_t9_loop.trips) (u : Unit) :
    (k0_t9_body (F := F) L xV (hw _) oV (hw _) bufV (hw _) accV (hw _) cc0_scratch2 cc0_scratch3 cc0_scratch4) k u
      = trip8 L fun r => chunk L (k0_off35 k (BitVec.ofNat 32 r.val)) (k0_off35_inb k r) (k0_off36 k (BitVec.ofNat 32 r.val)) (k0_off36_inb k r)
          (k0_off37 k (BitVec.ofNat 32 r.val)) (k0_off37_inb k r) k0_pay8 := rfl
@[sl_loop] def loop9 (fs : S2x2x13824.Idx → F .f32) (fa : S13824.Idx → F .f32) :
    LoopInv (M := 𝕄) frame (wpE (defs₀ (F := F)) 𝒱₀ (thr d L) none) Set.univ k0_t9_loop.lb k0_t9_loop.ub k0_t9_loop.st k0_t9_ok ()
      (k0_t9_body (F := F) L xV (hw _) oV (hw _) bufV (hw _) accV (hw _) cc0_scratch2 cc0_scratch3 cc0_scratch4) where
  inv k _ := held0 d L fs (mixT k fa (stepG opA 0 fs fa))
  step k u := by
    rw [body9_eq]
    exact chunk_step d L (sl := 0) k.isLt payA (k0_off35_eq k) (k0_off36_eq k) (k0_off37_eq k) mem_slot0 fs fa
instance loop9_exit (fs : S2x2x13824.Idx → F .f32) (fa : S13824.Idx → F .f32) : LoopExit (loop9 (F := F) d L fs fa) where
  post _ := held0 d L fs (stepG opA 0 fs fa)
  exit _ := Entails.of_eq (congrArg (held0 d L fs) (mixT_full (show k0_t9_loop.trips = 108 from rfl) fa _))

theorem body10_eq (k : Fin k0_t10_loop.trips) (u : Unit) :
    (k0_t10_body (F := F) L xV (hw _) oV (hw _) bufV (hw _) accV (hw _) cc0_scratch2 cc0_scratch3 cc0_scratch4) k u
      = trip8 L fun r => chunk L (k0_off39 k (BitVec.ofNat 32 r.val)) (k0_off39_inb k r) (k0_off40 k (BitVec.ofNat 32 r.val)) (k0_off40_inb k r)
          (k0_off41 k (BitVec.ofNat 32 r.val)) (k0_off41_inb k r) k0_pay8 := rfl
@[sl_loop] def loop10 (fs : S2x2x13824.Idx → F .f32) (fa : S13824.Idx → F .f32) :
    LoopInv (M := 𝕄) frame (wpE (defs₀ (F := F)) 𝒱₀ (thr d L) none) Set.univ k0_t10_loop.lb k0_t10_loop.ub k0_t10_loop.st k0_t10_ok ()
      (k0_t10_body (F := F) L xV (hw _) oV (hw _) bufV (hw _) accV (hw _) cc0_scratch2 cc0_scratch3 cc0_scratch4) where
  inv k _ := held1 d L fs (mixT k fa (stepG opA 1 fs fa))
  step k u := by
    rw [body10_eq]
    exact chunk_step d L (sl := 1) k.isLt payA (k0_off39_eq k) (k0_off40_eq k) (k0_off41_eq k) mem_slot1 fs fa
instance loop10_exit (fs : S2x2x13824.Idx → F .f32) (fa : S13824.Idx → F .f32) : LoopExit (loop10 (F := F) d L fs fa) where
  post _ := held1 d L fs (stepG opA 1 fs fa)
  exit _ := Entails.of_eq (congrArg (held1 d L fs) (mixT_full (show k0_t10_loop.trips = 108 from rfl) fa _))

theorem body11_eq (k : Fin k0_t11_loop.trips) (u : Unit) :
    (k0_t11_body (F := F) L xV (hw _) oV (hw _) bufV (hw _) accV (hw _) cc0_scratch2 cc0_scratch3 cc0_scratch4 0#32) k u
      = trip8 L fun r => chunk L (k0_off43 k (BitVec.ofNat 32 r.val)) (k0_off43_inb k r) (k0_off44 k (BitVec.ofNat 32 r.val)) (k0_off44_inb k r)
          (k0_off45 k (BitVec.ofNat 32 r.val)) (k0_off45_inb k r) k0_pay8 := rfl
@[sl_loop] def loop11 (fs : S2x2x13824.Idx → F .f32) (fa : S13824.Idx → F .f32) :
    LoopInv (M := 𝕄) frame (wpE (defs₀ (F := F)) 𝒱₀ (thr d L) none) Set.univ k0_t11_loop.lb k0_t11_loop.ub k0_t11_loop.st k0_t11_ok ()
      (k0_t11_body (F := F) L xV (hw _) oV (hw _) bufV (hw _) accV (hw _) cc0_scratch2 cc0_scratch3 cc0_scratch4 0#32) where
  inv k _ := held0 d L fs (mixT k fa (stepG opA 0 fs fa))
  step k u := by
    rw [body11_eq]
    exact chunk_step d L (sl := 0) k.isLt payA (k0_off43_eq k) (k0_off44_eq k) (k0_off45_eq k) mem_slot0 fs fa
instance loop11_exit (fs : S2x2x13824.Idx → F .f32) (fa : S13824.Idx → F .f32) : LoopExit (loop11 (F := F) d L fs fa) where
  post _ := held0 d L fs (stepG opA 0 fs fa)
  exit _ := Entails.of_eq (congrArg (held0 d L fs) (mixT_full (show k0_t11_loop.trips = 108 from rfl) fa _))

theorem body12_eq (k : Fin k0_t12_loop.trips) (u : Unit) :
    (k0_t12_body (F := F) L xV (hw _) oV (hw _) bufV (hw _) accV (hw _) cc0_scratch2 cc0_scratch3 cc0_scratch4 0#32) k u
      = trip8 L fun r => chunk L (k0_off47 k (BitVec.ofNat 32 r.val)) (k0_off47_inb k r) (k0_off48 k (BitVec.ofNat 32 r.val)) (k0_off48_inb k r)
          (k0_off49 k (BitVec.ofNat 32 r.val)) (k0_off49_inb k r) k0_pay8 := rfl
@[sl_loop] def loop12 (fs : S2x2x13824.Idx → F .f32) (fa : S13824.Idx → F .f32) :
    LoopInv (M := 𝕄) frame (wpE (defs₀ (F := F)) 𝒱₀ (thr d L) none) Set.univ k0_t12_loop.lb k0_t12_loop.ub k0_t12_loop.st k0_t12_ok ()
      (k0_t12_body (F := F) L xV (hw _) oV (hw _) bufV (hw _) accV (hw _) cc0_scratch2 cc0_scratch3 cc0_scratch4 0#32) where
  inv k _ := held1 d L fs (mixT k fa (stepG opA 1 fs fa))
  step k u := by
    rw [body12_eq]
    exact chunk_step d L (sl := 1) k.isLt payA (k0_off47_eq k) (k0_off48_eq k) (k0_off49_eq k) mem_slot1 fs fa
instance loop12_exit (fs : S2x2x13824.Idx → F .f32) (fa : S13824.Idx → F .f32) : LoopExit (loop12 (F := F) d L fs fa) where
  post _ := held1 d L fs (stepG opA 1 fs fa)
  exit _ := Entails.of_eq (congrArg (held1 d L fs) (mixT_full (show k0_t12_loop.trips = 108 from rfl) fa _))

theorem body13_eq (k : Fin k0_t13_loop.trips) (u : Unit) :
    (k0_t13_body (F := F) L xV (hw _) oV (hw _) bufV (hw _) accV (hw _) cc0_scratch2 cc0_scratch3 cc0_scratch4) k u
      = trip8 L fun r => chunk L (k0_off51 k (BitVec.ofNat 32 r.val)) (k0_off51_inb k r) (k0_off52 k (BitVec.ofNat 32 r.val)) (k0_off52_inb k r)
          (k0_off53 k (BitVec.ofNat 32 r.val)) (k0_off53_inb k r) k0_pay8 := rfl
@[sl_loop] def loop13 (fs : S2x2x13824.Idx → F .f32) (fa : S13824.Idx → F .f32) :
    LoopInv (M := 𝕄) frame (wpE (defs₀ (F := F)) 𝒱₀ (thr d L) none) Set.univ k0_t13_loop.lb k0_t13_loop.ub k0_t13_loop.st k0_t13_ok ()
      (k0_t13_body (F := F) L xV (hw _) oV (hw _) bufV (hw _) accV (hw _) cc0_scratch2 cc0_scratch3 cc0_scratch4) where
  inv k _ := held0 d L fs (mixT k fa (stepG opA 0 fs fa))
  step k u := by
    rw [body13_eq]
    exact chunk_step d L (sl := 0) k.isLt payA (k0_off51_eq k) (k0_off52_eq k) (k0_off53_eq k) mem_slot0 fs fa
instance loop13_exit (fs : S2x2x13824.Idx → F .f32) (fa : S13824.Idx → F .f32) : LoopExit (loop13 (F := F) d L fs fa) where
  post _ := held0 d L fs (stepG opA 0 fs fa)
  exit _ := Entails.of_eq (congrArg (held0 d L fs) (mixT_full (show k0_t13_loop.trips = 108 from rfl) fa _))

theorem body14_eq (k : Fin k0_t14_loop.trips) (u : Unit) :
    (k0_t14_body (F := F) L xV (hw _) oV (hw _) bufV (hw _) accV (hw _) cc0_scratch2 cc0_scratch3 cc0_scratch4) k u
      = trip8 L fun r => chunk L (k0_off55 k (BitVec.ofNat 32 r.val)) (k0_off55_inb k r) (k0_off56 k (BitVec.ofNat 32 r.val)) (k0_off56_inb k r)
          (k0_off57 k (BitVec.ofNat 32 r.val)) (k0_off57_inb k r) k0_pay8 := rfl
@[sl_loop] def loop14 (fs : S2x2x13824.Idx → F .f32) (fa : S13824.Idx → F .f32) :
    LoopInv (M := 𝕄) frame (wpE (defs₀ (F := F)) 𝒱₀ (thr d L) none) Set.univ k0_t14_loop.lb k0_t14_loop.ub k0_t14_loop.st k0_t14_ok ()
      (k0_t14_body (F := F) L xV (hw _) oV (hw _) bufV (hw _) accV (hw _) cc0_scratch2 cc0_scratch3 cc0_scratch4) where
  inv k _ := held1 d L fs (mixT k fa (stepG opA 1 fs fa))
  step k u := by
    rw [body14_eq]
    exact chunk_step d L (sl := 1) k.isLt payA (k0_off55_eq k) (k0_off56_eq k) (k0_off57_eq k) mem_slot1 fs fa
instance loop14_exit (fs : S2x2x13824.Idx → F .f32) (fa : S13824.Idx → F .f32) : LoopExit (loop14 (F := F) d L fs fa) where
  post _ := held1 d L fs (stepG opA 1 fs fa)
  exit _ := Entails.of_eq (congrArg (held1 d L fs) (mixT_full (show k0_t14_loop.trips = 108 from rfl) fa _))

theorem body15_eq (k : Fin k0_t15_loop.trips) (u : Unit) :
    (k0_t15_body (F := F) L xV (hw _) oV (hw _) bufV (hw _) accV (hw _) cc0_scratch2 cc0_scratch3 cc0_scratch4) k u
      = trip8 L fun r => chunk L (k0_off59 k (BitVec.ofNat 32 r.val)) (k0_off59_inb k r) (k0_off60 k (BitVec.ofNat 32 r.val)) (k0_off60_inb k r)
          (k0_off61 k (BitVec.ofNat 32 r.val)) (k0_off61_inb k r) k0_pay8 := rfl
@[sl_loop] def loop15 (fs : S2x2x13824.Idx → F .f32) (fa : S13824.Idx → F .f32) :
    LoopInv (M := 𝕄) frame (wpE (defs₀ (F := F)) 𝒱₀ (thr d L) none) Set.univ k0_t15_loop.lb k0_t15_loop.ub k0_t15_loop.st k0_t15_ok ()
      (k0_t15_body (F := F) L xV (hw _) oV (hw _) bufV (hw _) accV (hw _) cc0_scratch2 cc0_scratch3 cc0_scratch4) where
  inv k _ := held0 d L fs (mixT k fa (stepG opA 0 fs fa))
  step k u := by
    rw [body15_eq]
    exact chunk_step d L (sl := 0) k.isLt payA (k0_off59_eq k) (k0_off60_eq k) (k0_off61_eq k) mem_slot0 fs fa
instance loop15_exit (fs : S2x2x13824.Idx → F .f32) (fa : S13824.Idx → F .f32) : LoopExit (loop15 (F := F) d L fs fa) where
  post _ := held0 d L fs (stepG opA 0 fs fa)
  exit _ := Entails.of_eq (congrArg (held0 d L fs) (mixT_full (show k0_t15_loop.trips = 108 from rfl) fa _))

theorem body16_eq  (k : Fin k0_t16_loop.trips) (u : Unit) :
    (k0_t16_body (F := F) L xV (hw _) oV (hw _) bufV (hw _) accV (hw _) cc0_scratch2 cc0_scratch3 cc0_scratch4 (Scalar.ofBits .f32 0x3D000000#32)) k u
      = trip8 L fun r => chunk L (k0_off62 k (BitVec.ofNat 32 r.val)) (k0_off62_inb k r) (k0_off63 k (BitVec.ofNat 32 r.val)) (k0_off63_inb k r)
          (k0_off64 k (BitVec.ofNat 32 r.val)) (k0_off64_inb k r) (k0_pay171 c32) := rfl
@[sl_loop] def loop16  (fs : S2x2x13824.Idx → F .f32) (fa : S13824.Idx → F .f32) :
    LoopInv (M := 𝕄) frame (wpE (defs₀ (F := F)) 𝒱₀ (thr d L) none) Set.univ k0_t16_loop.lb k0_t16_loop.ub k0_t16_loop.st k0_t16_ok ()
      (k0_t16_body (F := F) L xV (hw _) oV (hw _) bufV (hw _) accV (hw _) cc0_scratch2 cc0_scratch3 cc0_scratch4 (Scalar.ofBits .f32 0x3D000000#32)) where
  inv k _ := held1 d L fs (mixT k fa (stepG (opZ c32) 1 fs fa))
  step k u := by
    rw [body16_eq]
    exact chunk_step d L (sl := 1) k.isLt (payZ c32) (k0_off62_eq k) (k0_off63_eq k) (k0_off64_eq k) mem_slot1 fs fa
instance loop16_exit  (fs : S2x2x13824.Idx → F .f32) (fa : S13824.Idx → F .f32) : LoopExit (loop16 (F := F) d L fs fa) where
  post _ := held1 d L fs (stepG (opZ c32) 1 fs fa)
  exit _ := Entails.of_eq (congrArg (held1 d L fs) (mixT_full (show k0_t16_loop.trips = 108 from rfl) fa _))

end Cert.Proof.Season

end
-- ==== Proof.Values.lean ====
/-
  THE VALUES: what a read of two channels leaves in a slot, what the sixteen groups leave in the accumulator, and what
  the copies out leave in the result.
-/
module

public import proofs.«01_k».proof.Proof.Loops

@[expose] public section

noncomputable section

namespace Cert.Proof.Season

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Two channels of a batch of `x`, and one row of the result, as the kernel's transfers address them. -/
abbrev xPc (o : Fin 3 → ℕ) (h : ∀ a, o a + S1x2x13824.size a ≤ S32x32x13824.size a) :
    Memref Cert.KernelIdeal.sig Kind.scVector Space.hbm Cert.KernelIdeal.S2x13824 EltTy.f32 :=
  (xV.slice (Rect.unit (s := S32x32x13824) o S1x2x13824.size h) (fun _ => rfl)).squeeze S2x13824 squeezes_S1x2x13824_S2x13824
abbrev oPc (o : Fin 3 → ℕ) (h : ∀ a, o a + S1x1x13824.size a ≤ S32x32x13824.size a) :
    Memref Cert.KernelIdeal.sig Kind.scVector Space.hbm Cert.KernelIdeal.S13824 EltTy.f32 :=
  (oV.slice (Rect.unit (s := S32x32x13824) o S1x1x13824.size h) (fun _ => rfl)).squeeze S13824 squeezes_S1x1x13824_S13824

/-! ## The indices behind the squeezes -/

omit [FloatOps F] in
theorem cast2 {α : Type} (x : S1x2x13824.Idx → α) (h) (r : Fin 2) (p : Fin 13824) : shapeCast S2x13824 x h (ix2 r p) = x (ix3 0 r p) := by
  pointwise
omit [FloatOps F] in
theorem cast1 {α : Type} (x : S1x1x13824.Idx → α) (h) (p : Fin 13824) : shapeCast S13824 x h (ix1 p) = x (ix3 0 0 p) := by
  pointwise

omit [FloatOps F] in
theorem x_read {o : Fin 3 → ℕ} {h} {b : Fin 32} {j : ℕ} (e : o = ![b.val, j, 0]) (X : S32x32x13824.Idx → F .f32) (r : Fin 2) (p : Fin 13824)
    (hj : j + r.val < 32) : (xPc o h).view.read (Elt F) X (ix2 r p) = X (ix3 b ⟨j + r.val, hj⟩ p) := by
  subst e
  refine (congrFun (Memref.read_squeeze_slice (Val := Elt F) xV _ _ _ squeezes_S1x2x13824_S2x13824.numel_eq X) _).trans ?_
  refine (cast2 _ _ r p).trans (congrArg X ?_)
  funext a
  match a with
  | ⟨0, _⟩ => exact Fin.ext (by show b.val + 1 * 0 = _; simp)
  | ⟨1, _⟩ => exact Fin.ext (by show j + 1 * r.val = _; simp)
  | ⟨2, _⟩ => exact Fin.ext (by show 0 + 1 * p.val = _; simp)

omit [FloatOps F] in
theorem o_read {o : Fin 3 → ℕ} {h} {b k : Fin 32} (e : o = ![b.val, k.val, 0]) (X : S32x32x13824.Idx → F .f32) (p : Fin 13824) :
    (oPc o h).view.read (Elt F) X (ix1 p) = X (ix3 b k p) := by
  subst e
  refine (congrFun (Memref.read_squeeze_slice (Val := Elt F) oV _ _ _ squeezes_S1x1x13824_S13824.numel_eq X) _).trans ?_
  refine (cast1 _ _ p).trans (congrArg X ?_)
  funext a
  match a with
  | ⟨0, _⟩ => exact Fin.ext (by show b.val + 1 * 0 = _; simp)
  | ⟨1, _⟩ => exact Fin.ext (by show k.val + 1 * 0 = _; simp)
  | ⟨2, _⟩ => exact Fin.ext (by show 0 + 1 * p.val = _; simp)

omit [FloatOps F] in
theorem slot0_read (f : S2x2x13824.Idx → F .f32) (r : Fin 2) (p : Fin 13824) : slot0.view.read (Elt F) f (ix2 r p) = f (ix3 0 r p) := by
  refine (congrFun (Memref.read_squeeze_slice (Val := Elt F) bufV _ _ _ squeezes_S1x2x13824_S2x13824.numel_eq f) _).trans ?_
  refine (cast2 _ _ r p).trans (congrArg f ?_)
  funext a
  match a with
  | ⟨0, _⟩ => exact Fin.ext (by show 0 + 1 * 0 = _; simp)
  | ⟨1, _⟩ => exact Fin.ext (by show 0 + 1 * r.val = _; simp)
  | ⟨2, _⟩ => exact Fin.ext (by show 0 + 1 * p.val = _; simp)
omit [FloatOps F] in
theorem slot1_read (f : S2x2x13824.Idx → F .f32) (r : Fin 2) (p : Fin 13824) : slot1.view.read (Elt F) f (ix2 r p) = f (ix3 1 r p) := by
  refine (congrFun (Memref.read_squeeze_slice (Val := Elt F) bufV _ _ _ squeezes_S1x2x13824_S2x13824.numel_eq f) _).trans ?_
  refine (cast2 _ _ r p).trans (congrArg f ?_)
  funext a
  match a with
  | ⟨0, _⟩ => exact Fin.ext (by show 1 + 1 * 0 = _; simp)
  | ⟨1, _⟩ => exact Fin.ext (by show 0 + 1 * r.val = _; simp)
  | ⟨2, _⟩ => exact Fin.ext (by show 0 + 1 * p.val = _; simp)

omit [FloatOps F] in
/-- A view read after a write of all of it. -/
theorem read_whole_cons {sp : Space} {s : Shape} (v : View Cert.KernelIdeal.sig Kind.scVector sp s EltTy.f32) (f : v.ty.Contents (Elt F))
    (w : s.Idx → F .f32) (rest : List (View.Piece (Elt F) s EltTy.f32)) :
    v.read (Elt F) (v.writes (Elt F) f (⟨Rect.whole s, w⟩ :: rest)) = w := by
  rw [← View.write_univ_eq_writes_whole]
  funext y
  exact View.read_write_of_mem _ _ (Finset.mem_univ y)

/-! ## One group of two channels -/

/-- Channel `j`. -/
abbrev chan (j : ℕ) : Fin 32 := Fin.ofNat 32 j

/-- The accumulator after the group of channels `j`, `j + 1`. -/
def stepX (op : F .f32 → F .f32 → F .f32 → F .f32) (X : S32x32x13824.Idx → F .f32) (b : Fin 32) (j : ℕ) (fa : S13824.Idx → F .f32) : S13824.Idx → F .f32 :=
  fun p => op (fa p) (X (ix3 b (chan j) (p 0))) (X (ix3 b (chan (j + 1)) (p 0)))

omit [FloatOps F] in
theorem x_chan {o : Fin 3 → ℕ} {h} {b : Fin 32} {j : ℕ} (e : o = ![b.val, j, 0]) (X : S32x32x13824.Idx → F .f32) (r : Fin 2) (p : Fin 13824) :
    (xPc o h).view.read (Elt F) X (ix2 r p) = X (ix3 b (chan (j + r.val)) p) := by
  have hj : j + 2 ≤ 32 := by have := h 1; rw [e] at this; exact this
  have hr := r.isLt
  rw [x_read e X r p (by omega)]
  have : (⟨j + r.val, by omega⟩ : Fin 32) = chan (j + r.val) := Fin.ext (Nat.mod_eq_of_lt (by omega)).symm
  rw [this]

theorem land0 {op : F .f32 → F .f32 → F .f32 → F .f32} {o : Fin 3 → ℕ} {h} {b : Fin 32} {j : ℕ} (e : o = ![b.val, j, 0]) (X : S32x32x13824.Idx → F .f32)
    {f : S2x2x13824.Idx → F .f32} {rest : List (View.Piece (Elt F) S2x13824 EltTy.f32)} {fa fa' : S13824.Idx → F .f32} (hfa : fa = fa') :
    stepG op 0 (slot0.view.writes (Elt F) f (⟨Rect.whole S2x13824, (xPc o h).view.read (Elt F) X⟩ :: rest)) fa = stepX op X b j fa' := by
  subst hfa
  funext p
  have e2 (r : Fin 2) : slot0.view.writes (Elt F) f (⟨Rect.whole S2x13824, (xPc o h).view.read (Elt F) X⟩ :: rest) (ix3 0 r (p 0))
      = X (ix3 b (chan (j + r.val)) (p 0)) :=
    (slot0_read _ r (p 0)).symm.trans ((congrFun (read_whole_cons slot0.view f ((xPc o h).view.read (Elt F) X) rest) _).trans
      (x_chan e X r (p 0)))
  show op (fa p) _ _ = op (fa p) _ _
  exact congrArg₂ (op (fa p)) (e2 0) (e2 1)
theorem land1 {op : F .f32 → F .f32 → F .f32 → F .f32} {o : Fin 3 → ℕ} {h} {b : Fin 32} {j : ℕ} (e : o = ![b.val, j, 0]) (X : S32x32x13824.Idx → F .f32)
    {f : S2x2x13824.Idx → F .f32} {rest : List (View.Piece (Elt F) S2x13824 EltTy.f32)} {fa fa' : S13824.Idx → F .f32} (hfa : fa = fa') :
    stepG op 1 (slot1.view.writes (Elt F) f (⟨Rect.whole S2x13824, (xPc o h).view.read (Elt F) X⟩ :: rest)) fa = stepX op X b j fa' := by
  subst hfa
  funext p
  have e2 (r : Fin 2) : slot1.view.writes (Elt F) f (⟨Rect.whole S2x13824, (xPc o h).view.read (Elt F) X⟩ :: rest) (ix3 1 r (p 0))
      = X (ix3 b (chan (j + r.val)) (p 0)) :=
    (slot1_read _ r (p 0)).symm.trans ((congrFun (read_whole_cons slot1.view f ((xPc o h).view.read (Elt F) X) rest) _).trans
      (x_chan e X r (p 0)))
  show op (fa p) _ _ = op (fa p) _ _
  exact congrArg₂ (op (fa p)) (e2 0) (e2 1)

/-! ## All groups -/

/-- The sum of channels `0 … 2 n + 1` of batch `b`, in the kernel's order. -/
def accAt (X : S32x32x13824.Idx → F .f32) (b : Fin 32) : ℕ → Fin 13824 → F .f32
  | 0 => fun p => FloatOps.addf (X (ix3 b (chan 0) p)) (X (ix3 b (chan 1) p))
  | n + 1 => fun p => FloatOps.addf (FloatOps.addf (accAt X b n p) (X (ix3 b (chan (2 * n + 2)) p))) (X (ix3 b (chan (2 * n + 3)) p))

/-- The result: the mean, the same for every row of the batch. -/
def OUT (X : S32x32x13824.Idx → F .f32) : S32x32x13824.Idx → F .f32 :=
  fun q => FloatOps.mulf (accAt X (q 0) 15 (q 2)) c32

theorem step_first (X : S32x32x13824.Idx → F .f32) (b : Fin 32) (fa : S13824.Idx → F .f32) :
    stepX (fun _ => op₀) X b 0 fa = fun p => accAt X b 0 (p 0) := rfl
theorem step_next (X : S32x32x13824.Idx → F .f32) (b : Fin 32) (n : ℕ) :
    stepX opA X b (2 * n + 2) (fun p => accAt X b n (p 0)) = fun p => accAt X b (n + 1) (p 0) := rfl
theorem step_last (X : S32x32x13824.Idx → F .f32) (b : Fin 32) :
    stepX (opZ c32) X b 30 (fun p => accAt X b 14 (p 0)) = fun p => OUT X (ix3 b 0 (p 0)) := rfl

variable (d : Dev nD) (L : grid0.Coords)

/-- The task's batch. -/
def bat : Fin 32 := ⟨2 * (L 1).val + (L 0).val, by have h0 : (L 0).val < 2 := (L 0).isLt; have h1 : (L 1).val < 16 := (L 1).isLt; omega⟩

abbrev xPts (X : S32x32x13824.Idx → F .f32) (o : Fin 3 → ℕ) (h : ∀ a, o a + S1x2x13824.size a ≤ S32x32x13824.size a) : sProp 𝕄 :=
  (xPc o h).view.loc (thr d L) ↦[(xPc o h).view.set]{fullShare} X
abbrev oPts (O : S32x32x13824.Idx → F .f32) (o : Fin 3 → ℕ) (h : ∀ a, o a + S1x1x13824.size a ≤ S32x32x13824.size a) : sProp 𝕄 :=
  (oPc o h).view.loc (thr d L) ↦[(oPc o h).view.set]{fullShare} O

omit [FloatOps F] in
/-- Contents that a view reads alike at an index agree at its element. -/
theorem emb_of_read {sp : Space} {s : Shape} (v : View Cert.KernelIdeal.sig Kind.scVector sp s EltTy.f32) {f g : v.ty.Contents (Elt F)} (y : s.Idx)
    (h : v.read (Elt F) f y = v.read (Elt F) g y) : f (v.emb y) = g (v.emb y) := by
  rw [View.read_apply, View.read_apply] at h
  exact (cast_inj _).mp h

/-- A row after the copy out of the accumulator. -/
theorem row_done {o : Fin 3 → ℕ} {h} {b k : Fin 32} (e : o = ![b.val, k.val, 0]) {O0 X : S32x32x13824.Idx → F .f32} {w : S13824.Idx → F .f32}
    (hw : w = fun p => OUT X (ix3 b 0 (p 0))) :
    oPts d L ((oPc o h).view.writes (Elt F) O0 [⟨Rect.whole S13824, w⟩]) o h ⊢ (oPts d L (OUT X) o h : sProp 𝕄) := by
  refine Entails.of_eq (pointsTo_congr fun i hi => ?_)
  obtain ⟨y, -, rfl⟩ := Finset.mem_map.mp hi
  have h1 : (oPc o h).view.read (Elt F) ((oPc o h).view.writes (Elt F) O0 [⟨Rect.whole S13824, w⟩]) y = w y :=
    congrFun (read_whole_cons (oPc o h).view O0 w []) y
  have h2 : (oPc o h).view.read (Elt F) (OUT X) y = OUT X (ix3 b k (y 0)) :=
    (congrArg _ (eq_ix1 y)).trans (o_read (h := h) e (OUT X) (y 0))
  have h3 : OUT X (ix3 b 0 (y 0)) = OUT X (ix3 b k (y 0)) := by unfold OUT; rfl
  refine emb_of_read (oPc o h).view y (h1.trans (Eq.trans ?_ h2.symm))
  rw [hw]
  exact h3

end Cert.Proof.Season

end
-- ==== Proof.Tile.lean ====
/-
  ONE TASK's run: from the sixteen pairs of channels of its batch, the thirty-two rows of the result, the two slots of
  the buffer, the accumulator and the three semaphores, the kernel's body leaves every row at the mean of the channels.
-/
module

public import proofs.«01_k».proof.Proof.Values

@[expose] public section

noncomputable section

namespace Cert.Proof.Season

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The channels of the task's batch, as its sixteen reads take them. -/
def xTask (X : S32x32x13824.Idx → F .f32) : sProp 𝕄 :=
  iprop(xPts d L X (k0_off1 L) (k0_off1_inb L)
      ∗ xPts d L X (k0_off2 L) (k0_off2_inb L)
      ∗ xPts d L X (k0_off6 L) (k0_off6_inb L)
      ∗ xPts d L X (k0_off10 L) (k0_off10_inb L)
      ∗ xPts d L X (k0_off14 L) (k0_off14_inb L)
      ∗ xPts d L X (k0_off18 L) (k0_off18_inb L)
      ∗ xPts d L X (k0_off22 L) (k0_off22_inb L)
      ∗ xPts d L X (k0_off26 L) (k0_off26_inb L)
      ∗ xPts d L X (k0_off30 L) (k0_off30_inb L)
      ∗ xPts d L X (k0_off34 L) (k0_off34_inb L)
      ∗ xPts d L X (k0_off38 L) (k0_off38_inb L)
      ∗ xPts d L X (k0_off42 L) (k0_off42_inb L)
      ∗ xPts d L X (k0_off46 L) (k0_off46_inb L)
      ∗ xPts d L X (k0_off50 L) (k0_off50_inb L)
      ∗ xPts d L X (k0_off54 L) (k0_off54_inb L)
      ∗ xPts d L X (k0_off58 L) (k0_off58_inb L))
/-- The rows of the task's batch, as its thirty-two copies write them. -/
def oTask (O : S32x32x13824.Idx → F .f32) : sProp 𝕄 :=
  iprop(oPts d L O (k0_off65 L) (k0_off65_inb L)
      ∗ oPts d L O (k0_off66 L) (k0_off66_inb L)
      ∗ oPts d L O (k0_off67 L) (k0_off67_inb L)
      ∗ oPts d L O (k0_off68 L) (k0_off68_inb L)
      ∗ oPts d L O (k0_off69 L) (k0_off69_inb L)
      ∗ oPts d L O (k0_off70 L) (k0_off70_inb L)
      ∗ oPts d L O (k0_off71 L) (k0_off71_inb L)
      ∗ oPts d L O (k0_off72 L) (k0_off72_inb L)
      ∗ oPts d L O (k0_off73 L) (k0_off73_inb L)
      ∗ oPts d L O (k0_off74 L) (k0_off74_inb L)
      ∗ oPts d L O (k0_off75 L) (k0_off75_inb L)
      ∗ oPts d L O (k0_off76 L) (k0_off76_inb L)
      ∗ oPts d L O (k0_off77 L) (k0_off77_inb L)
      ∗ oPts d L O (k0_off78 L) (k0_off78_inb L)
      ∗ oPts d L O (k0_off79 L) (k0_off79_inb L)
      ∗ oPts d L O (k0_off80 L) (k0_off80_inb L)
      ∗ oPts d L O (k0_off81 L) (k0_off81_inb L)
      ∗ oPts d L O (k0_off82 L) (k0_off82_inb L)
      ∗ oPts d L O (k0_off83 L) (k0_off83_inb L)
      ∗ oPts d L O (k0_off84 L) (k0_off84_inb L)
      ∗ oPts d L O (k0_off85 L) (k0_off85_inb L)
      ∗ oPts d L O (k0_off86 L) (k0_off86_inb L)
      ∗ oPts d L O (k0_off87 L) (k0_off87_inb L)
      ∗ oPts d L O (k0_off88 L) (k0_off88_inb L)
      ∗ oPts d L O (k0_off89 L) (k0_off89_inb L)
      ∗ oPts d L O (k0_off90 L) (k0_off90_inb L)
      ∗ oPts d L O (k0_off91 L) (k0_off91_inb L)
      ∗ oPts d L O (k0_off92 L) (k0_off92_inb L)
      ∗ oPts d L O (k0_off93 L) (k0_off93_inb L)
      ∗ oPts d L O (k0_off94 L) (k0_off94_inb L)
      ∗ oPts d L O (k0_off95 L) (k0_off95_inb L)
      ∗ oPts d L O (k0_off96 L) (k0_off96_inb L))

set_option maxHeartbeats 2000000 in
theorem tile_run (X O0 : S32x32x13824.Idx → F .f32) (b0 b1 : S2x2x13824.Idx → F .f32) (a0 : S13824.Idx → F .f32)
    (O : CellTallies nD τ sig (HIx 1)) (W : Waits sig (HIx 1))
    (_plan : Transfers.BatchOf (thr d L) (SemLoc.dma (sig := sig) cc0_scratch4.sem) 32 (windows := true)) :
    iprop(Transfers.MayWaits (thr d L) (default : HIx 1) O ∗ xTask d L X ∗ oTask d L O0
        ∗ (slot0.view.loc (thr d L) ↦[slot0.view.set]{fullShare} b0) ∗ (slot1.view.loc (thr d L) ↦[slot1.view.set]{fullShare} b1)
        ∗ (accV.view.loc (thr d L) ↦{fullShare} a0)
        ∗ semVal (thr d L, .dma cc0_scratch2.sem) 0 ∗ semVal (thr d L, .dma cc0_scratch3.sem) 0 ∗ semVal (thr d L, .dma cc0_scratch4.sem) 0
        ∗ owes (thr d L) O W)
      ⊢ wp frame (wpE (defs₀ (F := F)) 𝒱₀ (thr d L) none) Set.univ
          (cc0__seasonality_body L xV (hw _) oV (hw _) bufV (hw _) accV (hw _) cc0_scratch2 cc0_scratch3 cc0_scratch4) fun _ =>
          iprop(xTask d L X ∗ oTask d L (OUT X)
            ∗ (∃ f, slot0.view.loc (thr d L) ↦[slot0.view.set]{fullShare} f) ∗ (∃ f, slot1.view.loc (thr d L) ↦[slot1.view.set]{fullShare} f)
            ∗ (∃ f, accV.view.loc (thr d L) ↦{fullShare} f)
            ∗ semVal (thr d L, .dma cc0_scratch2.sem) 0 ∗ semVal (thr d L, .dma cc0_scratch3.sem) 0 ∗ semVal (thr d L, .dma cc0_scratch4.sem) 0
            ∗ ∃ W', owes (thr d L) O W') := by
  unfold xTask oTask
  iintro ⟨#Hmw, ⟨Hx0, Hx1, Hx2, Hx3, Hx4, Hx5, Hx6, Hx7, Hx8, Hx9, Hx10, Hx11, Hx12, Hx13, Hx14, Hx15⟩, ⟨Ho0, Ho1, Ho2, Ho3, Ho4, Ho5, Ho6, Ho7, Ho8, Ho9, Ho10, Ho11, Ho12, Ho13, Ho14, Ho15, Ho16, Ho17, Ho18, Ho19, Ho20, Ho21, Ho22, Ho23, Ho24, Ho25, Ho26, Ho27, Ho28, Ho29, Ho30, Ho31⟩, Hb0, Hb1, Ha, Hs0, Hs1, Hs2, HO⟩
  sl_unfold [cc0__seasonality_body]
  sl_exec (disch := exact View.amount_pos _ _ (show 0 < S2x13824.numel by decide))
  sl_step
  have hw : tile_run.sl.dma0_16 L X a0 = fun p => OUT X (ix3 (bat L) 0 (p 0)) :=
    (land1 (b := bat L) (j := 30) (k0_off58_eq L) X
      ((land0 (b := bat L) (j := 28) (k0_off54_eq L) X
      ((land1 (b := bat L) (j := 26) (k0_off50_eq L) X
      ((land0 (b := bat L) (j := 24) (k0_off46_eq L) X
      ((land1 (b := bat L) (j := 22) (k0_off42_eq L) X
      ((land0 (b := bat L) (j := 20) (k0_off38_eq L) X
      ((land1 (b := bat L) (j := 18) (k0_off34_eq L) X
      ((land0 (b := bat L) (j := 16) (k0_off30_eq L) X
      ((land1 (b := bat L) (j := 14) (k0_off26_eq L) X
      ((land0 (b := bat L) (j := 12) (k0_off22_eq L) X
      ((land1 (b := bat L) (j := 10) (k0_off18_eq L) X
      ((land0 (b := bat L) (j := 8) (k0_off14_eq L) X
      ((land1 (b := bat L) (j := 6) (k0_off10_eq L) X
      ((land0 (b := bat L) (j := 4) (k0_off6_eq L) X
      ((land1 (b := bat L) (j := 2) (k0_off2_eq L) X
      ((land0 (b := bat L) (j := 0) (k0_off1_eq L) X rfl).trans (step_first X _ _))).trans (step_next X _ 0))).trans (step_next X _ 1))).trans (step_next X _ 2))).trans (step_next X _ 3))).trans (step_next X _ 4))).trans (step_next X _ 5))).trans (step_next X _ 6))).trans (step_next X _ 7))).trans (step_next X _ 8))).trans (step_next X _ 9))).trans (step_next X _ 10))).trans (step_next X _ 11))).trans (step_next X _ 12))).trans (step_next X _ 13))).trans (step_last X _)
  isplitl [Hx0 Hx1 Hx2 Hx3 Hx4 Hx5 Hx6 Hx7 Hx8 Hx9 Hx10 Hx11 Hx12 Hx13 Hx14 Hx15]
  ·
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hx10]; · iexact Hx10
    isplitl [Hx11]; · iexact Hx11
    isplitl [Hx12]; · iexact Hx12
    isplitl [Hx13]; · iexact Hx13
    isplitl [Hx14]; · iexact Hx14
    iexact Hx15
  isplitl [Ho0 Ho1 Ho2 Ho3 Ho4 Ho5 Ho6 Ho7 Ho8 Ho9 Ho10 Ho11 Ho12 Ho13 Ho14 Ho15 Ho16 Ho17 Ho18 Ho19 Ho20 Ho21 Ho22 Ho23 Ho24 Ho25 Ho26 Ho27 Ho28 Ho29 Ho30 Ho31]
  ·
    isplitl [Ho0]; · iapply (row_done d L (b := bat L) (k := 0) (k0_off65_eq L) hw); iexact Ho0
    isplitl [Ho1]; · iapply (row_done d L (b := bat L) (k := 1) (k0_off66_eq L) hw); iexact Ho1
    isplitl [Ho2]; · iapply (row_done d L (b := bat L) (k := 2) (k0_off67_eq L) hw); iexact Ho2
    isplitl [Ho3]; · iapply (row_done d L (b := bat L) (k := 3) (k0_off68_eq L) hw); iexact Ho3
    isplitl [Ho4]; · iapply (row_done d L (b := bat L) (k := 4) (k0_off69_eq L) hw); iexact Ho4
    isplitl [Ho5]; · iapply (row_done d L (b := bat L) (k := 5) (k0_off70_eq L) hw); iexact Ho5
    isplitl [Ho6]; · iapply (row_done d L (b := bat L) (k := 6) (k0_off71_eq L) hw); iexact Ho6
    isplitl [Ho7]; · iapply (row_done d L (b := bat L) (k := 7) (k0_off72_eq L) hw); iexact Ho7
    isplitl [Ho8]; · iapply (row_done d L (b := bat L) (k := 8) (k0_off73_eq L) hw); iexact Ho8
    isplitl [Ho9]; · iapply (row_done d L (b := bat L) (k := 9) (k0_off74_eq L) hw); iexact Ho9
    isplitl [Ho10]; · iapply (row_done d L (b := bat L) (k := 10) (k0_off75_eq L) hw); iexact Ho10
    isplitl [Ho11]; · iapply (row_done d L (b := bat L) (k := 11) (k0_off76_eq L) hw); iexact Ho11
    isplitl [Ho12]; · iapply (row_done d L (b := bat L) (k := 12) (k0_off77_eq L) hw); iexact Ho12
    isplitl [Ho13]; · iapply (row_done d L (b := bat L) (k := 13) (k0_off78_eq L) hw); iexact Ho13
    isplitl [Ho14]; · iapply (row_done d L (b := bat L) (k := 14) (k0_off79_eq L) hw); iexact Ho14
    isplitl [Ho15]; · iapply (row_done d L (b := bat L) (k := 15) (k0_off80_eq L) hw); iexact Ho15
    isplitl [Ho16]; · iapply (row_done d L (b := bat L) (k := 16) (k0_off81_eq L) hw); iexact Ho16
    isplitl [Ho17]; · iapply (row_done d L (b := bat L) (k := 17) (k0_off82_eq L) hw); iexact Ho17
    isplitl [Ho18]; · iapply (row_done d L (b := bat L) (k := 18) (k0_off83_eq L) hw); iexact Ho18
    isplitl [Ho19]; · iapply (row_done d L (b := bat L) (k := 19) (k0_off84_eq L) hw); iexact Ho19
    isplitl [Ho20]; · iapply (row_done d L (b := bat L) (k := 20) (k0_off85_eq L) hw); iexact Ho20
    isplitl [Ho21]; · iapply (row_done d L (b := bat L) (k := 21) (k0_off86_eq L) hw); iexact Ho21
    isplitl [Ho22]; · iapply (row_done d L (b := bat L) (k := 22) (k0_off87_eq L) hw); iexact Ho22
    isplitl [Ho23]; · iapply (row_done d L (b := bat L) (k := 23) (k0_off88_eq L) hw); iexact Ho23
    isplitl [Ho24]; · iapply (row_done d L (b := bat L) (k := 24) (k0_off89_eq L) hw); iexact Ho24
    isplitl [Ho25]; · iapply (row_done d L (b := bat L) (k := 25) (k0_off90_eq L) hw); iexact Ho25
    isplitl [Ho26]; · iapply (row_done d L (b := bat L) (k := 26) (k0_off91_eq L) hw); iexact Ho26
    isplitl [Ho27]; · iapply (row_done d L (b := bat L) (k := 27) (k0_off92_eq L) hw); iexact Ho27
    isplitl [Ho28]; · iapply (row_done d L (b := bat L) (k := 28) (k0_off93_eq L) hw); iexact Ho28
    isplitl [Ho29]; · iapply (row_done d L (b := bat L) (k := 29) (k0_off94_eq L) hw); iexact Ho29
    isplitl [Ho30]; · iapply (row_done d L (b := bat L) (k := 30) (k0_off95_eq L) hw); iexact Ho30
    iapply (row_done d L (b := bat L) (k := 31) (k0_off96_eq L) hw); iexact Ho31
  isplitl [Hb0]; · iexists _; iexact Hb0
  isplitl [Hb1]; · iexists _; iexact Hb1
  isplitl [Ha]; · iexists _; iexact Ha
  isplitl [Hs0]; · iexact Hs0
  isplitl [Hs1]; · iexact Hs1
  isplitl [Hs2]; · iexact Hs2
  iexists _; iexact HO

end Cert.Proof.Season

end
-- ==== Proof.Split.lean ====
/-
  HOW THE ARRAYS ARE CUT: a batch of `x` into sixteen pairs of channels, a batch of the result into thirty-two rows, the
  arrays into thirty-two batches, and the buffer into its two slots.
-/
module

public import proofs.«01_k».proof.Proof.Tile

@[expose] public section

noncomputable section

namespace Cert.Proof.Season

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The elements of batch `b`, of its pair of channels `g`, and of its row `k`. -/
def bS (b : Fin 32) : Finset S32x32x13824.Idx := Finset.univ.filter fun q => (q 0).val = b.val
def xS (b : Fin 32) (g : Fin 16) : Finset S32x32x13824.Idx := Finset.univ.filter fun q => (q 0).val = b.val ∧ (q 1).val / 2 = g.val
def oS (b : Fin 32) (k : Fin 32) : Finset S32x32x13824.Idx := Finset.univ.filter fun q => (q 0).val = b.val ∧ (q 1).val = k.val

theorem set_xPc {o : Fin 3 → ℕ} {h} {b : Fin 32} {g : Fin 16} (e : o = ![b.val, 2 * g.val, 0]) : (xPc o h).view.set = xS b g := by
  subst e
  show ((xV.view.slice (Rect.unit (s := S32x32x13824) _ S1x2x13824.size h)).reshape S2x13824 squeezes_S1x2x13824_S2x13824.numel_eq).set = _
  rw [View.set_reshape]
  ext q
  simp only [xS, Finset.mem_filter, Finset.mem_univ, true_and]
  constructor
  · intro hq
    obtain ⟨j, -, rfl⟩ := Finset.mem_map.mp hq
    have h0 : (j 0).val < 1 := (j 0).isLt
    have h1 : (j 1).val < 2 := (j 1).isLt
    constructor
    · show b.val + 1 * (j 0).val = _; omega
    · show (2 * g.val + 1 * (j 1).val) / 2 = _; omega
  · rintro ⟨h0, h1⟩
    refine Finset.mem_map.mpr ⟨ix3 0 (⟨(q 1).val - 2 * g.val, by omega⟩ : Fin 2) (q 2), Finset.mem_univ _, ?_⟩
    funext a
    match a with
    | ⟨0, _⟩ => exact Fin.ext (by show b.val + 1 * 0 = (q 0).val; omega)
    | ⟨1, _⟩ => exact Fin.ext (by show 2 * g.val + 1 * ((q 1).val - 2 * g.val) = (q 1).val; omega)
    | ⟨2, _⟩ => exact Fin.ext (by show 0 + 1 * (q 2).val = (q 2).val; omega)

theorem set_oPc {o : Fin 3 → ℕ} {h} {b k : Fin 32} (e : o = ![b.val, k.val, 0]) : (oPc o h).view.set = oS b k := by
  subst e
  show ((oV.view.slice (Rect.unit (s := S32x32x13824) _ S1x1x13824.size h)).reshape S13824 squeezes_S1x1x13824_S13824.numel_eq).set = _
  rw [View.set_reshape]
  ext q
  simp only [oS, Finset.mem_filter, Finset.mem_univ, true_and]
  constructor
  · intro hq
    obtain ⟨j, -, rfl⟩ := Finset.mem_map.mp hq
    have h0 : (j 0).val < 1 := (j 0).isLt
    have h1 : (j 1).val < 1 := (j 1).isLt
    constructor
    · show b.val + 1 * (j 0).val = _; omega
    · show k.val + 1 * (j 1).val = _; omega
  · rintro ⟨h0, h1⟩
    refine Finset.mem_map.mpr ⟨ix3 0 0 (q 2), Finset.mem_univ _, ?_⟩
    funext a
    match a with
    | ⟨0, _⟩ => exact Fin.ext (by show b.val + 1 * 0 = (q 0).val; omega)
    | ⟨1, _⟩ => exact Fin.ext (by show k.val + 1 * 0 = (q 1).val; omega)
    | ⟨2, _⟩ => exact Fin.ext (by show 0 + 1 * (q 2).val = (q 2).val; omega)

theorem xS_disjoint (b : Fin 32) : ∀ g ∈ (Finset.univ : Finset (Fin 16)), ∀ g' ∈ (Finset.univ : Finset (Fin 16)), g ≠ g' → Disjoint (xS b g) (xS b g') :=
  fun g _ g' _ h => Finset.disjoint_left.mpr fun q h1 h2 => h (Fin.ext ((Finset.mem_filter.mp h1).2.2.symm.trans (Finset.mem_filter.mp h2).2.2))
theorem oS_disjoint (b : Fin 32) : ∀ k ∈ (Finset.univ : Finset (Fin 32)), ∀ k' ∈ (Finset.univ : Finset (Fin 32)), k ≠ k' → Disjoint (oS b k) (oS b k') :=
  fun g _ g' _ h => Finset.disjoint_left.mpr fun q h1 h2 => h (Fin.ext ((Finset.mem_filter.mp h1).2.2.symm.trans (Finset.mem_filter.mp h2).2.2))
theorem xS_cover (b : Fin 32) : (Finset.univ : Finset (Fin 16)).biUnion (xS b) = bS b := by
  ext q
  have h1 : (q 1).val < 32 := (q 1).isLt
  simp only [xS, bS, Finset.mem_biUnion, Finset.mem_filter, Finset.mem_univ, true_and]
  exact ⟨fun ⟨_, h, _⟩ => h, fun h => ⟨⟨(q 1).val / 2, by omega⟩, h, rfl⟩⟩
theorem oS_cover (b : Fin 32) : (Finset.univ : Finset (Fin 32)).biUnion (oS b) = bS b := by
  ext q
  have h1 : (q 1).val < 32 := (q 1).isLt
  simp only [oS, bS, Finset.mem_biUnion, Finset.mem_filter, Finset.mem_univ, true_and]
  exact ⟨fun ⟨_, h, _⟩ => h, fun h => ⟨⟨(q 1).val, h1⟩, h, rfl⟩⟩

/-! ## A task's batch -/

theorem x_piece (X : S32x32x13824.Idx → F .f32) {o : Fin 3 → ℕ} {h} {g : Fin 16} (e : o = ![(bat L).val, 2 * g.val, 0]) :
    (xPts d L X o h : sProp 𝕄) = xLoc d ↦[xS (bat L) g]{fullShare} X := by
  show ((xPc o h).view.loc (thr d L) ↦[(xPc o h).view.set]{fullShare} X : sProp 𝕄) = _
  rw [set_xPc e]
theorem o_piece (O : S32x32x13824.Idx → F .f32) {o : Fin 3 → ℕ} {h} {k : Fin 32} (e : o = ![(bat L).val, k.val, 0]) :
    (oPts d L O o h : sProp 𝕄) = oLoc d ↦[oS (bat L) k]{fullShare} O := by
  show ((oPc o h).view.loc (thr d L) ↦[(oPc o h).view.set]{fullShare} O : sProp 𝕄) = _
  rw [set_oPc e]

theorem xTask_eq (X : S32x32x13824.Idx → F .f32) : (xTask d L X : sProp 𝕄) = xLoc d ↦[bS (bat L)]{fullShare} X := by
  rw [← xS_cover, pointsTo_biUnion Finset.univ (ℓ := xLoc d) (xS (bat L)) (xS_disjoint _),
    bigSep_univ_eq_bigSepL (List.finRange 16) (by decide) (List.nodup_finRange 16)]
  unfold xTask
  refine congrArg₂ BI.sep (x_piece d L X (g := 0) (k0_off1_eq L)) ?_
  refine congrArg₂ BI.sep (x_piece d L X (g := 1) (k0_off2_eq L)) ?_
  refine congrArg₂ BI.sep (x_piece d L X (g := 2) (k0_off6_eq L)) ?_
  refine congrArg₂ BI.sep (x_piece d L X (g := 3) (k0_off10_eq L)) ?_
  refine congrArg₂ BI.sep (x_piece d L X (g := 4) (k0_off14_eq L)) ?_
  refine congrArg₂ BI.sep (x_piece d L X (g := 5) (k0_off18_eq L)) ?_
  refine congrArg₂ BI.sep (x_piece d L X (g := 6) (k0_off22_eq L)) ?_
  refine congrArg₂ BI.sep (x_piece d L X (g := 7) (k0_off26_eq L)) ?_
  refine congrArg₂ BI.sep (x_piece d L X (g := 8) (k0_off30_eq L)) ?_
  refine congrArg₂ BI.sep (x_piece d L X (g := 9) (k0_off34_eq L)) ?_
  refine congrArg₂ BI.sep (x_piece d L X (g := 10) (k0_off38_eq L)) ?_
  refine congrArg₂ BI.sep (x_piece d L X (g := 11) (k0_off42_eq L)) ?_
  refine congrArg₂ BI.sep (x_piece d L X (g := 12) (k0_off46_eq L)) ?_
  refine congrArg₂ BI.sep (x_piece d L X (g := 13) (k0_off50_eq L)) ?_
  refine congrArg₂ BI.sep (x_piece d L X (g := 14) (k0_off54_eq L)) ?_
  exact x_piece d L X (g := 15) (k0_off58_eq L)
theorem oTask_eq (O : S32x32x13824.Idx → F .f32) : (oTask d L O : sProp 𝕄) = oLoc d ↦[bS (bat L)]{fullShare} O := by
  rw [← oS_cover, pointsTo_biUnion Finset.univ (ℓ := oLoc d) (oS (bat L)) (oS_disjoint _),
    bigSep_univ_eq_bigSepL (List.finRange 32) (by decide) (List.nodup_finRange 32)]
  unfold oTask
  refine congrArg₂ BI.sep (o_piece d L O (k := 0) (k0_off65_eq L)) ?_
  refine congrArg₂ BI.sep (o_piece d L O (k := 1) (k0_off66_eq L)) ?_
  refine congrArg₂ BI.sep (o_piece d L O (k := 2) (k0_off67_eq L)) ?_
  refine congrArg₂ BI.sep (o_piece d L O (k := 3) (k0_off68_eq L)) ?_
  refine congrArg₂ BI.sep (o_piece d L O (k := 4) (k0_off69_eq L)) ?_
  refine congrArg₂ BI.sep (o_piece d L O (k := 5) (k0_off70_eq L)) ?_
  refine congrArg₂ BI.sep (o_piece d L O (k := 6) (k0_off71_eq L)) ?_
  refine congrArg₂ BI.sep (o_piece d L O (k := 7) (k0_off72_eq L)) ?_
  refine congrArg₂ BI.sep (o_piece d L O (k := 8) (k0_off73_eq L)) ?_
  refine congrArg₂ BI.sep (o_piece d L O (k := 9) (k0_off74_eq L)) ?_
  refine congrArg₂ BI.sep (o_piece d L O (k := 10) (k0_off75_eq L)) ?_
  refine congrArg₂ BI.sep (o_piece d L O (k := 11) (k0_off76_eq L)) ?_
  refine congrArg₂ BI.sep (o_piece d L O (k := 12) (k0_off77_eq L)) ?_
  refine congrArg₂ BI.sep (o_piece d L O (k := 13) (k0_off78_eq L)) ?_
  refine congrArg₂ BI.sep (o_piece d L O (k := 14) (k0_off79_eq L)) ?_
  refine congrArg₂ BI.sep (o_piece d L O (k := 15) (k0_off80_eq L)) ?_
  refine congrArg₂ BI.sep (o_piece d L O (k := 16) (k0_off81_eq L)) ?_
  refine congrArg₂ BI.sep (o_piece d L O (k := 17) (k0_off82_eq L)) ?_
  refine congrArg₂ BI.sep (o_piece d L O (k := 18) (k0_off83_eq L)) ?_
  refine congrArg₂ BI.sep (o_piece d L O (k := 19) (k0_off84_eq L)) ?_
  refine congrArg₂ BI.sep (o_piece d L O (k := 20) (k0_off85_eq L)) ?_
  refine congrArg₂ BI.sep (o_piece d L O (k := 21) (k0_off86_eq L)) ?_
  refine congrArg₂ BI.sep (o_piece d L O (k := 22) (k0_off87_eq L)) ?_
  refine congrArg₂ BI.sep (o_piece d L O (k := 23) (k0_off88_eq L)) ?_
  refine congrArg₂ BI.sep (o_piece d L O (k := 24) (k0_off89_eq L)) ?_
  refine congrArg₂ BI.sep (o_piece d L O (k := 25) (k0_off90_eq L)) ?_
  refine congrArg₂ BI.sep (o_piece d L O (k := 26) (k0_off91_eq L)) ?_
  refine congrArg₂ BI.sep (o_piece d L O (k := 27) (k0_off92_eq L)) ?_
  refine congrArg₂ BI.sep (o_piece d L O (k := 28) (k0_off93_eq L)) ?_
  refine congrArg₂ BI.sep (o_piece d L O (k := 29) (k0_off94_eq L)) ?_
  refine congrArg₂ BI.sep (o_piece d L O (k := 30) (k0_off95_eq L)) ?_
  exact o_piece d L O (k := 31) (k0_off96_eq L)

/-! ## The thirty-two batches, by SparseCore and tile -/

/-- The batch of tile `i` of SparseCore `c`. -/
def bt (c : Fin 2) (i : Fin 16) : Fin 32 := ⟨2 * i.val + c.val, by omega⟩
/-- The elements of the batches of SparseCore `c`. -/
def cS (c : Fin 2) : Finset S32x32x13824.Idx := (Finset.univ : Finset (Fin 16)).biUnion fun i => bS (bt c i)

theorem bS_disjoint (c : Fin 2) : ∀ i ∈ (Finset.univ : Finset (Fin 16)), ∀ i' ∈ (Finset.univ : Finset (Fin 16)), i ≠ i' → Disjoint (bS (bt c i)) (bS (bt c i')) :=
  fun i _ i' _ h => Finset.disjoint_left.mpr fun q h1 h2 => h (Fin.ext (by
    have e1 : (q 0).val = 2 * i.val + c.val := (Finset.mem_filter.mp h1).2
    have e2 : (q 0).val = 2 * i'.val + c.val := (Finset.mem_filter.mp h2).2
    omega))
theorem mem_cS (c : Fin 2) (q : S32x32x13824.Idx) : q ∈ cS c ↔ (q 0).val % 2 = c.val := by
  have h0 : (q 0).val < 32 := (q 0).isLt
  constructor
  · intro h
    obtain ⟨i, -, hi⟩ := Finset.mem_biUnion.mp h
    have e : (q 0).val = 2 * i.val + c.val := (Finset.mem_filter.mp hi).2
    omega
  · intro h
    refine Finset.mem_biUnion.mpr ⟨⟨(q 0).val / 2, by omega⟩, Finset.mem_univ _, Finset.mem_filter.mpr ⟨Finset.mem_univ _, ?_⟩⟩
    show (q 0).val = 2 * ((q 0).val / 2) + c.val
    omega
theorem cS_disjoint : ∀ c ∈ (Finset.univ : Finset (Fin 2)), ∀ c' ∈ (Finset.univ : Finset (Fin 2)), c ≠ c' → Disjoint (cS c) (cS c') :=
  fun c _ c' _ h => Finset.disjoint_left.mpr fun q h1 h2 => h (Fin.ext (((mem_cS c q).mp h1).symm.trans ((mem_cS c' q).mp h2)))
theorem cS_cover : (Finset.univ : Finset (Fin 2)).biUnion cS = Finset.univ := by
  ext q
  simp only [Finset.mem_biUnion, Finset.mem_univ, true_and, iff_true]
  exact ⟨⟨(q 0).val % 2, by omega⟩, (mem_cS _ q).mpr rfl⟩

theorem x_whole (X : S32x32x13824.Idx → F .f32) :
    (xLoc d ↦{fullShare} X : sProp 𝕄) = bigSep Finset.univ fun c : Fin 2 => bigSep Finset.univ fun i : Fin 16 => xLoc d ↦[bS (bt c i)]{fullShare} X := by
  have e (c : Fin 2) : (bigSep Finset.univ fun i : Fin 16 => (xLoc d ↦[bS (bt c i)]{fullShare} X : sProp 𝕄)) = xLoc d ↦[cS c]{fullShare} X :=
    (pointsTo_biUnion Finset.univ (ℓ := xLoc d) (fun i => bS (bt c i)) (bS_disjoint c)).symm
  simp only [e]
  rw [← pointsTo_biUnion Finset.univ (ℓ := xLoc d) cS cS_disjoint, cS_cover]
theorem o_whole (O : S32x32x13824.Idx → F .f32) :
    (oLoc d ↦{fullShare} O : sProp 𝕄) = bigSep Finset.univ fun c : Fin 2 => bigSep Finset.univ fun i : Fin 16 => oLoc d ↦[bS (bt c i)]{fullShare} O := by
  have e (c : Fin 2) : (bigSep Finset.univ fun i : Fin 16 => (oLoc d ↦[bS (bt c i)]{fullShare} O : sProp 𝕄)) = oLoc d ↦[cS c]{fullShare} O :=
    (pointsTo_biUnion Finset.univ (ℓ := oLoc d) (fun i => bS (bt c i)) (bS_disjoint c)).symm
  simp only [e]
  rw [← pointsTo_biUnion Finset.univ (ℓ := oLoc d) cS cS_disjoint, cS_cover]

/-! ## The buffer's slots -/

theorem slot0_mem (q : S2x2x13824.Idx) (hq : q ∈ slot0.view.set) : (q 0).val = 0 := by
  change q ∈ ((bufV.view.slice (Rect.unit (s := S2x2x13824) ![0, 0, 0] S1x2x13824.size inb_S2x2x13824_S1x2x13824_0_0_0)).reshape S2x13824
    squeezes_S1x2x13824_S2x13824.numel_eq).set at hq
  rw [View.set_reshape] at hq
  obtain ⟨j, -, rfl⟩ := Finset.mem_map.mp hq
  have h0 : (j 0).val < 1 := (j 0).isLt
  show 0 + 1 * (j 0).val = 0; omega
theorem slot1_mem (q : S2x2x13824.Idx) (hq : q ∈ slot1.view.set) : (q 0).val = 1 := by
  change q ∈ ((bufV.view.slice (Rect.unit (s := S2x2x13824) ![1, 0, 0] S1x2x13824.size inb_S2x2x13824_S1x2x13824_1_0_0)).reshape S2x13824
    squeezes_S1x2x13824_S2x13824.numel_eq).set at hq
  rw [View.set_reshape] at hq
  obtain ⟨j, -, rfl⟩ := Finset.mem_map.mp hq
  have h0 : (j 0).val < 1 := (j 0).isLt
  show 1 + 1 * (j 0).val = 1; omega
theorem slots_disjoint : Disjoint (slot0.view.set : Finset S2x2x13824.Idx) slot1.view.set :=
  Finset.disjoint_left.mpr fun q h1 h2 => absurd ((slot0_mem q h1).symm.trans (slot1_mem q h2)) (by decide)
theorem slots_cover : (slot0.view.set : Finset S2x2x13824.Idx) ∪ slot1.view.set = Finset.univ := by
  ext q
  simp only [Finset.mem_univ, iff_true, Finset.mem_union]
  have h0 : (q 0).val < 2 := (q 0).isLt
  rcases Nat.lt_or_ge (q 0).val 1 with h | h
  · exact .inl (mem_slot0 q (Fin.ext (show (q 0).val = 0 by omega)))
  · exact .inr (mem_slot1 q (Fin.ext (show (q 0).val = 1 by omega)))

/-- The buffer whole is its two slots. -/
theorem buf_split (f : S2x2x13824.Idx → F .f32) :
    (bufV.view.loc (thr d L) ↦{fullShare} f : sProp 𝕄)
      ⊢ iprop((slot0.view.loc (thr d L) ↦[slot0.view.set]{fullShare} f) ∗ (slot1.view.loc (thr d L) ↦[slot1.view.set]{fullShare} f)) := by
  have e : (bufV.view.loc (thr d L) ↦{fullShare} f : sProp 𝕄) = bufV.view.loc (thr d L) ↦[slot0.view.set ∪ slot1.view.set]{fullShare} f :=
    congrArg (fun S => (bufV.view.loc (thr d L) ↦[S]{fullShare} f : sProp 𝕄)) slots_cover.symm
  rw [e]
  exact (pointsTo_union slots_disjoint).1
theorem buf_join :
    iprop((∃ f, slot0.view.loc (thr d L) ↦[slot0.view.set]{fullShare} f) ∗ (∃ f, slot1.view.loc (thr d L) ↦[slot1.view.set]{fullShare} f))
      ⊢ (iprop(∃ f, bufV.view.loc (thr d L) ↦{fullShare} f) : sProp 𝕄) := by
  iintro ⟨⟨%f, H0⟩, ⟨%g, H1⟩⟩
  ihave H := (pointsTo_join (ℓ := bufV.view.loc (thr d L)) (q := fullShare) (f := f) (g := g) slots_disjoint) $$ [H0 H1]
  · isplitl [H0] <;> iassumption
  rw [slots_cover]
  iexists _; iexact H

end Cert.Proof.Season

end
-- ==== Proof.Launch.lean ====
/-
  THE LAUNCH: the task with its scoped buffers and semaphores, the obligation of every vector subcore, the two reshapes of
  `main` around the call, and the program's run: it ends, with the argument as it was and the result at the mean.
-/
module

public import proofs.«01_k».proof.Proof.Split
public import Idealize.ShloMosaic.Lib.SparseCore.Quiescent
public import Idealize.ShloMosaic.Lib.StableHlo.Run

@[expose] public section

noncomputable section

namespace Cert.Proof.Season

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (wp_hlo_within)

variable {F : FTy → Type} [FloatOps F]

local notation "𝕄" => MT nD τ sig (HIx 1) (Elt F) ℕ UU ℕ

variable (d : Dev nD) (L : grid0.Coords)

/-! ## The task's own buffers and semaphores -/

abbrev sem0 (d : Dev nD) (L : grid0.Coords) : GSem nD τ sig := (thr d L, .dma cc0_scratch2.sem)
abbrev sem1 (d : Dev nD) (L : grid0.Coords) : GSem nD τ sig := (thr d L, .dma cc0_scratch3.sem)
abbrev sem2 (d : Dev nD) (L : grid0.Coords) : GSem nD τ sig := (thr d L, .dma cc0_scratch4.sem)

theorem ownSems0_task :
    (ownSems0 (thr d L) : sProp 𝕄)
      = iprop(semVal (sem0 d L) 0 ∗ semVal (sem1 d L) 0 ∗ semVal (sem2 d L) 0
          ∗ bigSep ((((ownCells (thr d L)).erase (sem0 d L)).erase (sem1 d L)).erase (sem2 d L)) fun g => semVal g 0) := by
  unfold SparseCore.Cfg.ownSems0
  rw [SparseCore.bigSep_erase' ((mem_ownCells (g := sem0 d L)).mpr ⟨rfl, by
      show (SemLoc.dma cc0_scratch2.sem : SemLoc sig).isScoped .scVector = true; decide⟩),
    SparseCore.bigSep_erase' (Finset.mem_erase.mpr ⟨by simp [sem0, sem1]; decide, (mem_ownCells (g := sem1 d L)).mpr ⟨rfl, by
      show (SemLoc.dma cc0_scratch3.sem : SemLoc sig).isScoped .scVector = true; decide⟩⟩),
    SparseCore.bigSep_erase' (Finset.mem_erase.mpr ⟨by simp [sem1, sem2]; decide, Finset.mem_erase.mpr ⟨by simp [sem0, sem2]; decide,
      (mem_ownCells (g := sem2 d L)).mpr ⟨rfl, by show (SemLoc.dma cc0_scratch4.sem : SemLoc sig).isScoped .scVector = true; decide⟩⟩⟩)]

theorem ownBufs_task :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- `tile_run`, to go on from. -/
theorem wp_frame_run (X O0 : S32x32x13824.Idx → F .f32) (fb : S2x2x13824.Idx → F .f32) (fa : S13824.Idx → F .f32)
    (O : CellTallies nD τ sig (HIx 1)) (W : Waits sig (HIx 1)) {Q : PUnit → sProp 𝕄} :
    iprop(Transfers.MayWaits (thr d L) (default : HIx 1) O ∗ xTask d L X ∗ oTask d L O0
        ∗ (slot0.view.loc (thr d L) ↦[slot0.view.set]{fullShare} fb) ∗ (slot1.view.loc (thr d L) ↦[slot1.view.set]{fullShare} fb)
        ∗ (accV.view.loc (thr d L) ↦{fullShare} fa)
        ∗ semVal (sem0 d L) 0 ∗ semVal (sem1 d L) 0 ∗ semVal (sem2 d L) 0 ∗ owes (thr d L) O W)
      ⊢ iprop((iprop(xTask d L X ∗ oTask d L (OUT X)
            ∗ (∃ f, slot0.view.loc (thr d L) ↦[slot0.view.set]{fullShare} f) ∗ (∃ f, slot1.view.loc (thr d L) ↦[slot1.view.set]{fullShare} f)
            ∗ (∃ f, accV.view.loc (thr d L) ↦{fullShare} f)
            ∗ semVal (sem0 d L) 0 ∗ semVal (sem1 d L) 0 ∗ semVal (sem2 d L) 0 ∗ ∃ W', owes (thr d L) O W') -∗ Q ⟨⟩)
        -∗ wp frame (wpE (defs₀ (F := F)) 𝒱₀ (thr d L) none) Set.univ
          (cc0__seasonality_body L xV (hw _) oV (hw _) bufV (hw _) accV (hw _) cc0_scratch2 cc0_scratch3 cc0_scratch4) Q) := by
  iintro H HQ
  ihave Hw := (tile_run d L X O0 fb fb fa O W trivial) $$ H
  iapply (wp_wand frame (wpE (defs₀ (F := F)) 𝒱₀ (thr d L) none) Set.univ) $$ Hw
  iintro %_ H
  iapply HQ
  iexact H

/-- The task, with everything a vector subcore is given for it. -/
theorem tile_body (hF : (K (F := F)).Facts) (X O0 : S32x32x13824.Idx → F .f32) (O : CellTallies nD τ sig (HIx 1)) (W : Waits sig (HIx 1)) (hO : ∀ g, O g none = 0) :
    (iprop((levAts (K (F := F)).L (K (F := F)).lev : sProp 𝕄) ∗ emp
        ∗ ((xLoc d ↦[bS (bat L)]{fullShare} X) ∗ (oLoc d ↦[bS (bat L)]{fullShare} O0))
        ∗ scopedBufs (thr d L) ∗ scopedSems0 (thr d L) ∗ owes (thr d L) O W) : sProp 𝕄)
      ⊢ wp frame (wpE (defs₀ (F := F)) 𝒱₀ (thr d L) none) Set.univ
          (cc0__seasonality_body L xV (hw _) oV (hw _) bufV (hw _) accV (hw _) cc0_scratch2 cc0_scratch3 cc0_scratch4)
          fun _ => iprop(((xLoc d ↦[bS (bat L)]{fullShare} X) ∗ (oLoc d ↦[bS (bat L)]{fullShare} OUT X))
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_task, ownBufs_task]
  rw [← xTask_eq, ← oTask_eq, ← oTask_eq]
  iintro ⟨#Hlv, -, ⟨Hx, Ho⟩, ⟨⟨%fb, Hb⟩, ⟨%fa, Ha⟩, Hbufs⟩, ⟨Hs0, Hs1, Hs2, Hsems⟩, HO⟩
  ihave Hmw := (show (levAts (K (F := F)).L (K (F := F)).lev : sProp 𝕄) ⊢ Transfers.MayWaits (thr d L) (default : HIx 1) O from
    (K (F := F)).mayWaits_none (thr := thr d L) hO) $$ Hlv
  ihave Hb' := (buf_split (F := F) d L fb) $$ Hb
  icases Hb' with ⟨Hb0, Hb1⟩
  iapply (wp_frame_run d L X O0 fb fa O W) $$ [Hmw Hx Ho Hb0 Hb1 Ha Hs0 Hs1 Hs2 HO]
  · isplitl [Hmw]; · iexact Hmw
    isplitl [Hx]; · iexact Hx
    isplitl [Ho]; · iexact Ho
    isplitl [Hb0]; · iexact Hb0
    isplitl [Hb1]; · iexact Hb1
    isplitl [Ha]; · iexact Ha
    isplitl [Hs0]; · iexact Hs0
    isplitl [Hs1]; · iexact Hs1
    isplitl [Hs2]; · iexact Hs2
    iexact HO
  iintro ⟨Hx, Ho, Hb0, Hb1, Ha, Hs0, Hs1, Hs2, ⟨%W', HO⟩⟩
  isplitl [Hx Ho]
  · isplitl [Hx] <;> iassumption
  isplitl [Hb0 Hb1 Ha Hbufs]
  · isplitl [Hb0 Hb1]
    · iapply (buf_join (F := F) d L); isplitl [Hb0] <;> iassumption
    isplitl [Ha]; · iexact Ha
    iexact Hbufs
  isplitl [Hs0 Hs1 Hs2 Hsems]
  · isplitl [Hs0]; · iexact Hs0
    isplitl [Hs1]; · iexact Hs1
    isplitl [Hs2]; · iexact Hs2
    iexact Hsems
  iexists W'; isplitr
  swap; · iexact HO
  ipureintro; intro p _
  rcases p.2 with _ | q
  · exact .inr (.inl rfl)
  · exact .inr (.inr (congrArg some (Subsingleton.elim q 0)))

/-! ## What the launch carries -/

variable (m : (ℓ : Loc nD τ sig) → Buf (Elt F) ℓ) (ρ : Dev nD → PrngReg)

/-- The kernel's operand and the program's result, from the argument's launch contents. -/
def XV (d : Dev nD) : S32x32x13824.Idx → F .f32 := shapeCast S32x32x13824 (m (aLoc d)) shapeCasts_S32x768x24x24_S32x32x13824
def RV (d : Dev nD) : S32x768x24x24.Idx → F .f32 := shapeCast S32x768x24x24 (OUT (XV m d)) shapeCasts_S32x32x13824_S32x768x24x24

/-- Batch `b` of the operand, and of the result at `O`. -/
abbrev bP (d : Dev nD) (O : S32x32x13824.Idx → F .f32) (b : Fin 32) : sProp 𝕄 :=
  iprop((xLoc d ↦[bS b]{fullShare} XV m d) ∗ (oLoc d ↦[bS b]{fullShare} O))

def P : (K (F := F)).Pay (nD := nD) (Val := Elt F) (Name := ℕ) (U := UU) where
  st := fun q d c => match q with
    | 0 => bigSep Finset.univ fun i : Fin 16 => bP m d (m (oLoc d)) (bt (Fin.cast nCore_zero c) i)
  dn := fun q d c => match q with
    | 0 => bigSep Finset.univ fun i : Fin 16 => bP m d (OUT (XV m d)) (bt (Fin.cast nCore_zero c) i)
  go := fun q d c i => match q with
    | 0 => bP m d (m (oLoc d)) (bt (Fin.cast nCore_zero c) (Fin.cast nSub_zero i))
  td := fun q d c i => match q with
    | 0 => bP m d (OUT (XV m d)) (bt (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => bP m d (m (oLoc d)) (bt (Fin.cast nCore_zero c) i)))
  dn q d c := match q with
    | 0 => (inferInstance : BI.Storable (upEmb : UEmb _ 𝕄) (bigSep Finset.univ fun i : Fin 16 => bP m d (OUT (XV m d)) (bt (Fin.cast nCore_zero c) i)))
  go q d c i := match q with
    | 0 => (inferInstance : BI.Storable (upEmb : UEmb _ 𝕄) (bP m d (m (oLoc d)) (bt (Fin.cast nCore_zero c) (Fin.cast nSub_zero i))))
  td q d c i := match q with
    | 0 => (inferInstance : BI.Storable (upEmb : UEmb _ 𝕄) (bP m d (OUT (XV m d)) (bt (Fin.cast nCore_zero c) (Fin.cast nSub_zero i))))

/-! ## The obligation of a vector subcore -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__seasonality_body (coordsV c s)
          xV (hw _) oV (hw _) bufV (hw _) accV (hw _) cc0_scratch2 cc0_scratch3 cc0_scratch4) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (XV m d) (m (oLoc d)) O W hO

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show (bigSep Finset.univ fun i : Fin 16 => bP m d (m (oLoc d)) (bt (Fin.cast nCore_zero c) i)) ⊢ |={Set.univ}=> iprop(
      (bigSep Finset.univ fun i : Fin ((K (F := F)).nSub 0) => bP m d (m (oLoc d)) (bt (Fin.cast nCore_zero c) (Fin.cast nSub_zero i)))
      ∗ ((bigSep Finset.univ fun i : Fin ((K (F := F)).nSub 0) => bP m d (OUT (XV m d)) (bt (Fin.cast nCore_zero c) (Fin.cast nSub_zero i)))
          -∗ bigSep Finset.univ fun i : Fin 16 => bP m d (OUT (XV m d)) (bt (Fin.cast nCore_zero c) i)))
  rw [bigSep_tasks (F := F) (fun i => bP m d (m (oLoc d)) (bt (Fin.cast nCore_zero c) i)),
    bigSep_tasks (F := F) (fun i => bP m d (OUT (XV m d)) (bt (Fin.cast nCore_zero c) i))]
  iintro H; imodintro
  isplitl [H]; · iexact H
  iintro H; iexact H

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## `main` -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opIn : HloOp τ sig (Elt F) := StableHlo.reshape main_arg0 main_v0 (rfl : (.f32 : EltTy) = .f32) shapeCasts_S32x768x24x24_S32x32x13824
abbrev opOut : HloOp τ sig (Elt F) := StableHlo.reshape main_v1 main_v2 (rfl : (.f32 : EltTy) = .f32) shapeCasts_S32x32x13824_S32x768x24x24

/-- `main`'s four arrays. -/
abbrev S4 : Finset (DevRef τ sig) := {a', x', o', r'}

theorem held_S4 (V : Valuation τ sig (Elt F)) :
    (StableHlo.held (SparseCore.T d) S4 V : sProp 𝕄)
      = iprop((aLoc d ↦{fullShare} V a') ∗ (xLoc d ↦{fullShare} V x') ∗ (oLoc d ↦{fullShare} V o') ∗ rLoc d ↦{fullShare} V r') := by
  unfold StableHlo.held S4
  rw [SparseCore.bigSep_insert' (by decide), SparseCore.bigSep_insert' (by decide), SparseCore.bigSep_insert' (by decide), bigSep_singleton]

theorem unscopedBufs_eq (V : (b : Ref sig .tc) → Buf (Elt F) ((d.tc : Thread nD τ).loc b)) :
    (unscopedBufs d V : sProp 𝕄)
      = iprop((aLoc d ↦{fullShare} V main_arg0) ∗ (xLoc d ↦{fullShare} V main_v0) ∗ (oLoc d ↦{fullShare} V main_v1) ∗ rLoc d ↦{fullShare} V main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays at launch, before the call and after it. -/
def V0 : Valuation τ sig (Elt F) := fun b => m (d, b)
def V1 : Valuation τ sig (Elt F) := (opIn (F := F)).result (V0 d m)
def V2 : Valuation τ sig (Elt F) := Function.update (V1 d m) o' (OUT (XV m d))

theorem unscoped_held : (unscopedBufs d (fun b => m ((SparseCore.T d).loc b)) : sProp 𝕄) = StableHlo.held (SparseCore.T d) S4 (V0 d m) := by
  rw [unscopedBufs_eq, held_S4]; rfl

theorem V1_a : V1 d m a' = m (aLoc d) := (opIn (F := F)).result_of_not_mem _ (show a' ∉ ({x'} : Finset (DevRef τ sig)) by decide)
theorem V1_o : V1 d m o' = m (oLoc d) := (opIn (F := F)).result_of_not_mem _ (show o' ∉ ({x'} : Finset (DevRef τ sig)) by decide)
theorem V1_x : V1 d m x' = XV m d := StableHlo.reshape_result _ _ _ _ _ _ _
theorem V2_a : V2 d m a' = m (aLoc d) := (Function.update_of_ne (show a' ≠ o' by decide) _ _).trans (V1_a d m)
theorem V2_o : V2 d m o' = OUT (XV m d) := Function.update_self _ _ _
theorem V2_x : V2 d m x' = XV m d := (Function.update_of_ne (show x' ≠ o' by decide) _ _).trans (V1_x d m)
theorem V2_r : V2 d m r' = V1 d m r' := Function.update_of_ne (show r' ≠ o' by decide) _ _

theorem held_V1 :
    (StableHlo.held (SparseCore.T d) S4 ((opIn (F := F)).result (V0 d m)) : sProp 𝕄)
      = iprop((aLoc d ↦{fullShare} m (aLoc d)) ∗ (xLoc d ↦{fullShare} XV m d) ∗ (oLoc d ↦{fullShare} m (oLoc d)) ∗ rLoc d ↦{fullShare} V1 d m r') := by
  show StableHlo.held (SparseCore.T d) S4 (V1 d m) = _
  rw [held_S4, V1_a, V1_o, V1_x]
theorem held_V2 :
    (StableHlo.held (SparseCore.T d) S4 (V2 d m) : sProp 𝕄)
      = iprop((aLoc d ↦{fullShare} m (aLoc d)) ∗ (xLoc d ↦{fullShare} XV m d) ∗ (oLoc d ↦{fullShare} OUT (XV m d)) ∗ rLoc d ↦{fullShare} V1 d m r') := by
  rw [held_S4, V2_a, V2_o, V2_x, V2_r]
theorem held_V3 :
    (StableHlo.held (SparseCore.T d) S4 ((opOut (F := F)).result (V2 d m)) : sProp 𝕄)
      = iprop((aLoc d ↦{fullShare} m (aLoc d)) ∗ (xLoc d ↦{fullShare} (opOut (F := F)).result (V2 d m) x')
          ∗ (oLoc d ↦{fullShare} (opOut (F := F)).result (V2 d m) o') ∗ rLoc d ↦{fullShare} RV m d) := by
  have er : (opOut (F := F)).result (V2 d m) r' = RV m d :=
    (StableHlo.reshape_result _ _ _ _ _ _ _).trans (by rw [V2_o]; rfl)
  rw [held_S4, (opOut (F := F)).result_of_not_mem (V2 d m) (b := a') (show a' ∉ ({r'} : Finset (DevRef τ sig)) by decide), V2_a, er]

theorem hIn : (opIn (F := F)).bufs ⊆ S4 := show ({a', x'} : Finset (DevRef τ sig)) ⊆ S4 by decide
theorem hOut : (opOut (F := F)).bufs ⊆ S4 := show ({o', r'} : Finset (DevRef τ sig)) ⊆ S4 by decide

theorem cores_eq (O : S32x32x13824.Idx → F .f32) :
    (bigSep Finset.univ fun c : Fin 2 => bigSep Finset.univ fun i : Fin 16 => bP m d O (bt c i))
      = iprop((xLoc d ↦{fullShare} XV m d) ∗ (oLoc d ↦{fullShare} O)) := by
  rw [x_whole, o_whole, ← bigSep_sep']
  exact bigSep_congr fun c _ => bigSep_sep' ..
theorem st0_eq :
    (bigSep Finset.univ fun c : Fin ((K (F := F)).nCore 0) => (P m).st 0 d c) = iprop((xLoc d ↦{fullShare} XV m d) ∗ (oLoc d ↦{fullShare} m (oLoc d))) :=
  (bigSep_cores (fun c => bigSep Finset.univ fun i : Fin 16 => bP m d (m (oLoc d)) (bt c i))).trans (cores_eq d m _)
theorem dn0_eq :
    (bigSep Finset.univ fun c : Fin ((K (F := F)).nCore 0) => (P m).dn 0 d c) = iprop((xLoc d ↦{fullShare} XV m d) ∗ (oLoc d ↦{fullShare} OUT (XV m d))) :=
  (bigSep_cores (fun c => bigSep Finset.univ fun i : Fin 16 => bP m d (OUT (XV m d)) (bt c i))).trans (cores_eq d m _)

/-- What `main` leaves the claims. -/
abbrev FIN (d : Dev nD) : sProp 𝕄 := iprop((aLoc d ↦{fullShare} m (aLoc d)) ∗ rLoc d ↦{fullShare} RV m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4) hIn (V := V0 d m)) $$ [Hb Hheld]
  · isplitl [Hb] <;> iassumption
  iintro ⟨Hb, Hheld⟩
  rw [wp_ret]; imodintro
  ihave Hh := (Entails.of_eq (held_V1 (F := F) d m)) $$ Hheld
  icases Hh with ⟨Ha, Hx, Ho, Hr⟩
  iapply ((K (F := F)).wp_run (D (F := F)) 𝒱 (EH := EH) (P := P m) κ d 0) $$ [Hst Ha Hx Ho Hr Hb Hts]
  isplitr; · iexact Hctx
  isplitl [Hst]; · iexact Hst
  isplitl [Hx Ho]
  · rw [st0_eq]
    isplitl [Hx] <;> iassumption
  iintro ⟨Hst, Hdn⟩
  ihave Hdn' := (Entails.of_eq (dn0_eq d m)) $$ Hdn
  icases Hdn' with ⟨Hx, Ho⟩
  iapply (wp_hlo_within 𝒱 (SparseCore.T d) none Set.univ (op := opOut) (S := S4) hOut (V := V2 d m)) $$ [Hb Ha Hx Ho Hr]
  · isplitl [Hb]; · iexact Hb
    rw [held_V2]
    isplitl [Ha]; · iexact Ha
    isplitl [Hx]; · iexact Hx
    isplitl [Ho]; · iexact Ho
    iexact Hr
  iintro ⟨Hb, Hheld⟩
  ihave Hh := (Entails.of_eq (held_V3 (F := F) d m)) $$ Hheld
  icases Hh with ⟨Ha, -, -, Hr⟩
  rw [wp_ret]; imodintro; imodintro
  isplitl [Hst]; · iexact Hst
  isplitr [Hb Hts]
  · isplitl [Ha] <;> iassumption
  isplitl [Hb] <;> iassumption

def fq (d : Dev nD) (s' : Phys nD τ sig (Elt F)) : Prop := s'.mem.mem (rLoc d) = RV m d ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := RV m d)) $$ [HSI Hr]
  · isplitl [HSI] <;> iassumption
  icases H with %hr
  ipureintro; exact ⟨funext fun i => hr i (Finset.mem_univ i), funext fun i => ha i (Finset.mem_univ i)⟩

/-! ## The program's run -/

def QC : PUnit × MemSt nD τ sig (Elt F) → Prop := fun r => (∀ c : Dev nD, r.2.mem (rLoc c) = RV m c ∧ r.2.mem (aLoc c) = m (aLoc c)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Season

end
-- ==== Proof.RefWords.lean ====
/-
  THE REFERENCE'S WORDS: the segment of every channel is its residue modulo 24, also where negative words would be wrapped and
  where words below zero would be clipped; every segment lies in range; each of the 24 segments has 32 channels.
-/
module

public import proofs.«01_k».proof.Proof.Gen.ReferenceIdeal.Run
public import Idealize.ShloMosaic.Lib.ReduceAll
public import Idealize.ShloMosaic.Lib.Pipeline.Value
public import Idealize.ShloMosaic.Lib.Pointwise.Index
public import Idealize.ShloMosaic.Lib.Routing.Ops
public import Idealize.ShloMosaic.Lib.Routing.OpsPair

@[expose] public section

noncomputable section

namespace Cert.Proof.Season.Ref

open Cert.ReferenceIdeal Cert.ReferenceIdeal.Gen
open Idealize.ShloMosaic Idealize.ShloMosaic.TcCoe Idealize.SL.Sem

/-! ## The terms that repeat in the reference's result -/

/-- The period, as the remainder's lowering takes it (one where it is zero). -/
def per : IVec S_ 32 := select (cmpi .eq (id (constantI S_ 32 24#32)) (constantI S_ 32 0#32)) (constantI S_ 32 1#32) (id (constantI S_ 32 24#32))
/-- The channel numbers' remainders. -/
def remd : IVec S768 32 := Host.remsi (iotaInDim S768 32 0) (broadcastInDim S768 ![] bcast_S_S768 per)
/-- The segments: the remainders with the period added where the signs differ. -/
def seg : IVec S768 32 :=
  select (andi (cmpi .ne (cmpi .slt remd (broadcastInDim S768 ![] bcast_S_S768 (constantI S_ 32 0#32))) (broadcastInDim S768 ![] bcast_S_S768 (cmpi .slt per (constantI S_ 32 0#32))))
    (cmpi .ne remd (broadcastInDim S768 ![] bcast_S_S768 (constantI S_ 32 0#32)))) (addi remd (broadcastInDim S768 ![] bcast_S_S768 per)) remd
/-- Negative words wrapped by the period. -/
def wrap (s : IVec S768 32) : IVec S768 32 :=
  select (cmpi .slt s (broadcastInDim S768 ![] bcast_S_S768 (constantI S_ 32 0#32))) (addi s (broadcastInDim S768 ![] bcast_S_S768 (constantI S_ 32 24#32))) s
/-- Words clipped from below at zero. -/
def clip (s : IVec S768 32) : IVec S768 32 := maxsi (broadcastInDim S768 ![] bcast_S_S768 (id (constantI S_ 32 0#32))) s
/-- A vector of words as a column. -/
def col (s : IVec S768 32) : IVec S768x1 32 := broadcastInDim S768x1 ![0] bcast_S768_S768x1_0 s

/-- Whether every channel's segment lies in range. -/
def inside : IVec S768 1 :=
  Host.reduce IntOp.andi (andi (cmpi .sge (col (wrap seg)) (broadcastInDim S768x1 ![] bcast_S_S768x1 (constantI S_ 32 0#32)))
    (cmpi .sle (col (wrap seg)) (broadcastInDim S768x1 ![0, 1] bcast_S1x1_S768x1_0_1 (broadcastInDim S1x1 ![1] bcast_S1_S1x1_1 (constantI S1 32 23#32)))))
    (constantI S_ 1 1#1) reducesTo_S768x1_S768_d1 h_S_
/-- How many channels each segment has. -/
def hist : IVec S24 32 :=
  Host.scatter scatter_S24_S768x1_S768_n_0_0_1 IntOp.addi (broadcastInDim S24 ![] bcast_S_S24 (constantI S_ 32 0#32)) (col (wrap (clip seg)))
    (broadcastInDim S768 ![] bcast_S_S768 (constantI S_ 32 1#32))

section Terms
variable {F : FTy → Type} [FloatOps F]

/-- The segments' sums. -/
def sums (x : FVec F S32x768x24x24 .f32) : FVec F S24x32x24x24 .f32 :=
  Host.scatterAdd scatter_S24x32x24x24_S768x1_S768x32x24x24_123_0_0_1 (broadcastInDim S24x32x24x24 ![] bcast_S_S24x32x24x24 (constant S_ .f32 0x00000000#32)) (col seg)
    (transpose S768x32x24x24 [1, 0, 2, 3] x transposes_S32x768x24x24_S768x32x24x24_1_0_2_3)
/-- The segments' counts, one to an element of the sums. -/
def counts : FVec F S24x32x24x24 .f32 :=
  broadcastInDim S24x32x24x24 ![0, 1, 2, 3] bcast_S24x1x1x1_S24x32x24x24_0_1_2_3 (broadcastInDim S24x1x1x1 ![0] bcast_S24_S24x1x1x1_0 (sitofp .f32 hist))
/-- The means, one to a channel. -/
def taken (x : FVec F S32x768x24x24 .f32) : FVec F S768x32x24x24 .f32 :=
  Host.gather gather_S24x32x24x24_S768x1_S768x32x24x24_123_0_n_n_0_1_1322424 (Host.divf (sums x) counts) (col (wrap seg))
/-- The reference's result. -/
def result (x : FVec F S32x768x24x24 .f32) : FVec F S32x768x24x24 .f32 :=
  transpose S32x768x24x24 [1, 0, 2, 3] (select (broadcastInDim S768x32x24x24 ![0] bcast_S768_S768x32x24x24_0 inside) (taken x)
    (broadcastInDim S768x32x24x24 ![] bcast_S_S768x32x24x24 (constant S_ .f32 0x7FC00000#32))) transposes_S768x32x24x24_S32x768x24x24_1_0_2_3

set_option maxRecDepth 8192 in
theorem res_eq (m : (ℓ : Loc nD τ sig) → Buf (Elt F) ℓ) (c : Dev nD) :
    Value.res_out0 m c = result (m ((c.tc : Thread nD τ).loc main_arg0)) := by
  unfold Value.res_out0 Value.res_main_v21
  rfl

end Terms

/-! ## The words -/

/-- One channel's segment. -/
def segOf (w : BitVec 32) : BitVec 32 :=
  let p : BitVec 32 := if IntOp.cmpi .eq 24#32 0#32 = 1#1 then 1#32 else 24#32
  let r : BitVec 32 := IntOp.remsi .host w p
  if IntOp.andi (IntOp.cmpi .ne (IntOp.cmpi .slt r 0#32) (IntOp.cmpi .slt p 0#32)) (IntOp.cmpi .ne r 0#32) = 1#1 then IntOp.addi r p else r
/-- One word wrapped. -/
def wrapOf (w : BitVec 32) : BitVec 32 := if IntOp.cmpi .slt w 0#32 = 1#1 then IntOp.addi w 24#32 else w

theorem segOf_ofNat : ∀ n : Fin 768, segOf (BitVec.ofNat 32 n.val) = BitVec.ofNat 32 (n.val % 24) := by decide +kernel
theorem wrapOf_ofNat : ∀ n : Fin 24, wrapOf (BitVec.ofNat 32 n.val) = BitVec.ofNat 32 n.val := by decide +kernel
theorem clipOf_ofNat : ∀ n : Fin 24, IntOp.maxsi 0#32 (BitVec.ofNat 32 n.val) = BitVec.ofNat 32 n.val := by decide +kernel
theorem range_ofNat : ∀ n : Fin 24, IntOp.andi (IntOp.cmpi .sge (BitVec.ofNat 32 n.val) 0#32) (IntOp.cmpi .sle (BitVec.ofNat 32 n.val) 23#32) = 1#1 := by
  decide +kernel

theorem seg_at (i : S768.Idx) : seg i = BitVec.ofNat 32 ((i 0).val % 24) := (show seg i = segOf (BitVec.ofNat 32 (i 0).val) from rfl).trans (segOf_ofNat (i 0))
theorem wrap_at (s : IVec S768 32) (hs : ∀ i, s i = BitVec.ofNat 32 ((i 0).val % 24)) (i : S768.Idx) : wrap s i = BitVec.ofNat 32 ((i 0).val % 24) := by
  show wrapOf (s i) = _
  rw [hs]; exact wrapOf_ofNat ⟨_, Nat.mod_lt _ (by decide)⟩
theorem clip_at (i : S768.Idx) : clip seg i = BitVec.ofNat 32 ((i 0).val % 24) := by
  show IntOp.maxsi 0#32 (seg i) = _
  rw [seg_at]; exact clipOf_ofNat ⟨_, Nat.mod_lt _ (by decide)⟩
theorem col_at (s : IVec S768 32) (hs : ∀ i, s i = BitVec.ofNat 32 ((i 0).val % 24)) (i : S768x1.Idx) : col s i = BitVec.ofNat 32 ((i 0).val % 24) :=
  hs _

theorem inside_at (i : S768.Idx) : inside i = 1#1 := by
  refine Host.reduce_andi_one _ _ _ _ _ rfl fun j => ?_
  show IntOp.andi (IntOp.cmpi .sge (col (wrap seg) j) 0#32) (IntOp.cmpi .sle (col (wrap seg) j) 23#32) = 1#1
  rw [col_at _ (wrap_at _ seg_at)]
  exact range_ofNat ⟨_, Nat.mod_lt _ (by decide)⟩

theorem count_at : ∀ r : Fin 24, Nat.count (fun n => n % 24 = r.val) 768 = 32 := by decide +kernel

/-- Channel `n`'s one lands at its residue. -/
theorem one_lands (w : IVec S768x1 32) (hw : ∀ i, w i = BitVec.ofNat 32 ((i 0).val % 24)) (k : S768.Idx) (i : S24.Idx) :
    scatter_S24_S768x1_S768_n_0_0_1.resultIdx? k w = some i ↔ (k 0).val % 24 = (i 0).val := by
  rw [Routing.resultIdx?_eq_some]
  have hs : scatter_S24_S768x1_S768_n_0_0_1.start k w 0 = (((k 0).val % 24 : ℕ) : ℤ) := by
    show (w _).toInt = _
    rw [hw]
    show (BitVec.ofNat 32 ((k 0).val % 24)).toInt = _
    exact StableHlo.Predicate.toInt_ofNat_small _ (by omega)
  have hz : scatter_S24_S768x1_S768_n_0_0_1.window k 0 = 0 := rfl
  constructor
  · intro h
    have := h 0
    rw [hs, hz] at this
    omega
  · intro h a
    match a with
    | ⟨0, _⟩ =>
      show scatter_S24_S768x1_S768_n_0_0_1.start k w 0 + (scatter_S24_S768x1_S768_n_0_0_1.window k 0 : ℤ) = ((i 0).val : ℤ)
      rw [hs, hz]; omega

theorem hist_at (i : S24.Idx) : hist i = 32#32 := by
  unfold hist
  rw [Routing.scatter_at]
  have hn : S768.numel = 768 := Routing.numel1 768
  have step : ∀ (a : BitVec 32) (n : Fin S768.numel),
      (if scatter_S24_S768x1_S768_n_0_0_1.resultIdx? (S768.rowMajor.symm n) (col (wrap (clip seg))) = some i
        then IntOp.addi a ((broadcastInDim S768 ![] bcast_S_S768 (constantI S_ 32 1#32) : IVec S768 32) (S768.rowMajor.symm n)) else a)
      = if decide (n.val % 24 = (i 0).val) then IntOp.addi a 1#32 else a := by
    intro a n
    have e : ((S768.rowMajor.symm n) 0).val = n.val := congrArg Fin.val (congrFun (Routing.symm1 (N := 768) n) 0)
    have hl := one_lands _ (col_at _ (wrap_at _ clip_at)) (S768.rowMajor.symm n) i
    rw [e] at hl
    simp only [hl, decide_eq_true_eq]
    rfl
  simp only [step]
  have h := Routing.foldl_count (I := Unit) (fun r (n : Fin S768.numel) => fun _ => if decide (n.val % 24 = (i 0).val) then IntOp.addi (r ()) 1#32 else r ()) ()
    (fun n => decide (n.val % 24 = (i 0).val)) (fun _ _ => rfl) (List.finRange S768.numel) (fun _ => 0#32) 0 rfl
  have hh := List.foldl_hom (fun r : Unit → BitVec 32 => r ()) (l := List.finRange S768.numel) (init := fun _ => 0#32)
    (g₁ := fun r (n : Fin S768.numel) => fun _ => if decide (n.val % 24 = (i 0).val) then IntOp.addi (r ()) 1#32 else r ())
    (g₂ := fun a n => if decide (n.val % 24 = (i 0).val) then IntOp.addi a 1#32 else a) (fun _ _ => rfl)
  refine (show _ = _ from hh).trans (h.trans ?_)
  rw [Routing.countP_finRange S768.numel (fun n => n % 24 = (i 0).val), hn, count_at (i 0)]

end Cert.Proof.Season.Ref

end
-- ==== Proof.RefValue.lean ====
/-
  THE REFERENCE'S VALUE at the ideal instance: every element is the sum of its residue class's 32 channels, over 32.
-/
module

public import proofs.«01_k».proof.Proof.RefWords
public import Idealize.ShloMosaic.PureOps.Ideal

@[expose] public section

noncomputable section

namespace Cert.Proof.Season.Ref

open Cert.ReferenceIdeal Cert.ReferenceIdeal.Gen
open Idealize.ShloMosaic Idealize.ShloMosaic.TcCoe Idealize.SL.Sem

/-- Channel `24 k + r`. -/
def chan24 (k : Fin 32) (r : Fin 24) : Fin 768 := ⟨24 * k.val + r.val, by omega⟩

theorem src_in (j : S768x32x24x24.Idx) (x : S32x768x24x24.Idx → Ideal .f32) :
    transpose S768x32x24x24 [1, 0, 2, 3] x transposes_S32x768x24x24_S768x32x24x24_1_0_2_3 j = x (ix4 (j 1) (j 0) (j 2) (j 3)) := by
  unfold transpose
  refine congrArg x (funext fun a => ?_)
  match a with
  | ⟨0, _⟩ => rfl
  | ⟨1, _⟩ => rfl
  | ⟨2, _⟩ => rfl
  | ⟨3, _⟩ => rfl
theorem src_out (j : S32x768x24x24.Idx) (x : S768x32x24x24.Idx → Ideal .f32) :
    transpose S32x768x24x24 [1, 0, 2, 3] x transposes_S768x32x24x24_S32x768x24x24_1_0_2_3 j = x (ix4 (j 1) (j 0) (j 2) (j 3)) := by
  unfold transpose
  refine congrArg x (funext fun a => ?_)
  match a with
  | ⟨0, _⟩ => rfl
  | ⟨1, _⟩ => rfl
  | ⟨2, _⟩ => rfl
  | ⟨3, _⟩ => rfl

abbrev sdim := scatter_S24x32x24x24_S768x1_S768x32x24x24_123_0_0_1
abbrev gdim := gather_S24x32x24x24_S768x1_S768x32x24x24_123_0_n_n_0_1_1322424

/-- Where an element of channel `j 0` is added: at its residue. -/
theorem chan_lands (w : IVec S768x1 32) (hw : ∀ i, w i = BitVec.ofNat 32 ((i 0).val % 24)) (j : S768x32x24x24.Idx) (q : S24x32x24x24.Idx) :
    sdim.resultIdx? j w = some q ↔ (j 0).val % 24 = (q 0).val ∧ j 1 = q 1 ∧ j 2 = q 2 ∧ j 3 = q 3 := by
  rw [Routing.resultIdx?_eq_some]
  have hs0 : sdim.start j w 0 = (((j 0).val % 24 : ℕ) : ℤ) := by
    show (w _).toInt = _
    rw [hw]
    show (BitVec.ofNat 32 ((j 0).val % 24)).toInt = _
    exact StableHlo.Predicate.toInt_ofNat_small _ (by omega)
  have hs1 : sdim.start j w 1 = 0 := rfl
  have hs2 : sdim.start j w 2 = 0 := rfl
  have hs3 : sdim.start j w 3 = 0 := rfl
  have hw0 : sdim.window j 0 = 0 := rfl
  have hw1 : sdim.window j 1 = (j 1).val := rfl
  have hw2 : sdim.window j 2 = (j 2).val := rfl
  have hw3 : sdim.window j 3 = (j 3).val := rfl
  constructor
  · intro h
    have h0 := h 0
    have h1 := h 1
    have h2 := h 2
    have h3 := h 3
    rw [hs0, hw0] at h0
    rw [hs1, hw1] at h1
    rw [hs2, hw2] at h2
    rw [hs3, hw3] at h3
    exact ⟨by omega, Fin.ext (by omega), Fin.ext (by omega), Fin.ext (by omega)⟩
  · rintro ⟨h0, h1, h2, h3⟩ a
    match a with
    | ⟨0, _⟩ =>
      show sdim.start j w 0 + (sdim.window j 0 : ℤ) = ((q 0).val : ℤ)
      rw [hs0, hw0]; omega
    | ⟨1, _⟩ =>
      show sdim.start j w 1 + (sdim.window j 1 : ℤ) = ((q 1).val : ℤ)
      rw [hs1, hw1, h1]; omega
    | ⟨2, _⟩ =>
      show sdim.start j w 2 + (sdim.window j 2 : ℤ) = ((q 2).val : ℤ)
      rw [hs2, hw2, h2]; omega
    | ⟨3, _⟩ =>
      show sdim.start j w 3 + (sdim.window j 3 : ℤ) = ((q 3).val : ℤ)
      rw [hs3, hw3, h3]; omega

/-- A segment's sum is that of its 32 channels. -/
theorem sums_at (x : S32x768x24x24.Idx → Ideal .f32) (q : S24x32x24x24.Idx) :
    sums (F := Ideal) x q = (∑ k : Fin 32, (x (ix4 (q 1) (chan24 k (q 0)) (q 2) (q 3)) : EReal)) := by
  have hz : (Ideal.ofBits .f32 0x00000000#32 : EReal) = 0 := by simp [Ideal.ofBits, Ideal.ieee]
  show (Ideal.ofBits .f32 0x00000000#32 : EReal) + _ = _
  rw [hz, zero_add]
  refine Finset.sum_bij' (fun j _ => (⟨(j 0).val / 24, by have := (j 0).isLt; simp only [S768x32x24x24] at this; exact Nat.div_lt_of_lt_mul this⟩ : Fin 32))
    (fun k _ => (ix4 (chan24 k (q 0)) (q 1) (q 2) (q 3) : S768x32x24x24.Idx)) (fun _ _ => Finset.mem_univ _) ?_ ?_ ?_ ?_
  · intro k _
    refine Finset.mem_filter.2 ⟨Finset.mem_univ _, (chan_lands _ (col_at _ seg_at) _ _).2 ⟨?_, rfl, rfl, rfl⟩⟩
    show (24 * k.val + (q 0).val) % 24 = (q 0).val
    have := (q 0).isLt
    simp only [S24x32x24x24] at this
    have h' : (q 0).val < 24 := this
    omega
  · intro j hj
    obtain ⟨h0, h1, h2, h3⟩ := (chan_lands _ (col_at _ seg_at) _ _).1 (Finset.mem_filter.1 hj).2
    refine funext fun a => ?_
    match a with
    | ⟨0, _⟩ => exact Fin.ext (show 24 * ((j 0).val / 24) + (q 0).val = (j 0).val by omega)
    | ⟨1, _⟩ => exact h1.symm
    | ⟨2, _⟩ => exact h2.symm
    | ⟨3, _⟩ => exact h3.symm
  · intro k _
    have h' : (q 0).val < 24 := (q 0).isLt
    exact Fin.ext (show (24 * k.val + (q 0).val) / 24 = k.val by omega)
  · intro j hj
    obtain ⟨h0, h1, h2, h3⟩ := (chan_lands _ (col_at _ seg_at) _ _).1 (Finset.mem_filter.1 hj).2
    rw [src_in, h1, h2, h3]
    refine congrArg x (congrArg (fun c => ix4 (q 1) c (q 2) (q 3)) (Fin.ext ?_))
    show (j 0).val = 24 * ((j 0).val / 24) + (q 0).val
    omega

/-- Every segment's count is 32. -/
theorem counts_at (q : S24x32x24x24.Idx) : counts (F := Ideal) q = (((32 : ℝ) : EReal)) := by
  show (((hist _).toInt : ℝ) : EReal) = _
  rw [hist_at]
  norm_num [show (32#32 : BitVec 32).toInt = 32 from by decide]

/-- The row that the reference takes for channel `j 0`. -/
theorem row_taken (w : IVec S768x1 32) (hw : ∀ i, w i = BitVec.ofNat 32 ((i 0).val % 24)) (j : S768x32x24x24.Idx) :
    gdim.operandIdx j w = (ix4 ⟨(j 0).val % 24, Nat.mod_lt _ (by decide)⟩ (j 1) (j 2) (j 3) : S24x32x24x24.Idx) := by
  have hs0 : gdim.start j w 0 = (j 0).val % 24 := by
    show min (w _).toInt.toNat 23 = _
    rw [hw]
    show min (BitVec.ofNat 32 ((j 0).val % 24)).toInt.toNat 23 = _
    rw [StableHlo.Predicate.toInt_ofNat_small _ (by omega)]
    omega
  refine funext fun a => Fin.ext ?_
  match a with
  | ⟨0, _⟩ =>
    show gdim.start j w 0 + gdim.batchCoord j 0 + gdim.offCoord j 0 = _
    rw [hs0]; rfl
  | ⟨1, _⟩ =>
    show 0 + 0 + (j 1).val = (j 1).val
    omega
  | ⟨2, _⟩ =>
    show 0 + 0 + (j 2).val = (j 2).val
    omega
  | ⟨3, _⟩ =>
    show 0 + 0 + (j 3).val = (j 3).val
    omega

/-- The reference's result at an element. -/
theorem result_at (x : S32x768x24x24.Idx → Ideal .f32) (i : S32x768x24x24.Idx) :
    result (F := Ideal) x i
      = (∑ k : Fin 32, (x (ix4 (i 0) (chan24 k ⟨(i 1).val % 24, Nat.mod_lt _ (by decide)⟩) (i 2) (i 3)) : EReal)) * ((1 / 32 : ℝ) : EReal) := by
  unfold result
  rw [src_out]
  show (if inside _ = 1#1 then taken (F := Ideal) x (ix4 (i 1) (i 0) (i 2) (i 3)) else _) = _
  rw [if_pos (inside_at _)]
  show Ideal.div (sums (F := Ideal) x (gdim.operandIdx _ _)) (counts (F := Ideal) (gdim.operandIdx _ _)) = _
  rw [row_taken _ (col_at _ (wrap_at _ seg_at)), sums_at, counts_at, Ideal.div_coe (by norm_num : (32 : ℝ) ≠ 0)]
  rfl

end Cert.Proof.Season.Ref

end
-- ==== Proof.Equation.lean ====
/-
  THE TWO RESULTS ARE ONE: at the ideal instance the kernel's running sum times 1/32 is the reference's sum over the residue
  class's channels divided by 32.
-/
module

public import proofs.«01_k».proof.Proof.Launch
public import proofs.«01_k».proof.Proof.RefValue

@[expose] public section

noncomputable section

namespace Cert.Proof.Season

open Cert.KernelIdeal Cert.KernelIdeal.Gen
open Idealize.ShloMosaic

/-- The running sum after `n + 1` groups is the sum of the first `2 n + 2` channels. -/
theorem acc_sum (X : S32x32x13824.Idx → Ideal .f32) (b : Fin 32) (p : Fin 13824) (n : ℕ) :
    (accAt (F := Ideal) X b n p : EReal) = ∑ j ∈ Finset.range (2 * n + 2), (X (ix3 b (chan j) p) : EReal) := by
  induction n with
  | zero =>
    rw [Finset.sum_range_succ, Finset.sum_range_succ, Finset.sum_range_zero, zero_add]
    rfl
  | succ n ih =>
    rw [show 2 * (n + 1) + 2 = (2 * n + 2) + 1 + 1 by ring, Finset.sum_range_succ, Finset.sum_range_succ, ← ih]
    rfl

theorem c32_ideal : (c32 (F := Ideal) : EReal) = ((1 / 32 : ℝ) : EReal) := by
  show (Ideal.ofBits .f32 0x3D000000#32 : EReal) = _
  simp [Ideal.ofBits, Ideal.ieee, -EReal.coe_mul]
  norm_num

/-- The kernel's result at an element. -/
theorem out_at (X : S32x32x13824.Idx → Ideal .f32) (b k' : Fin 32) (p : Fin 13824) :
    OUT (F := Ideal) X (ix3 b k' p) = (∑ k : Fin 32, (X (ix3 b k p) : EReal)) * ((1 / 32 : ℝ) : EReal) := by
  have h : (accAt (F := Ideal) X b 15 p : EReal) = ∑ k : Fin 32, (X (ix3 b k p) : EReal) := by
    rw [acc_sum, Finset.sum_range]
    refine Finset.sum_congr rfl fun k _ => ?_
    rw [show chan k.val = k from Fin.ext (Nat.mod_eq_of_lt k.isLt)]
  show (accAt (F := Ideal) X b 15 p : EReal) * (c32 (F := Ideal) : EReal) = _
  rw [c32_ideal, h]

/-- The place of element `(h, w)` of residue `r` in a row of the operand. -/
def place (r h w : Fin 24) : Fin 13824 := ⟨(r.val * 24 + h.val) * 24 + w.val, by omega⟩

theorem cast_in (x : S32x768x24x24.Idx → Ideal .f32) (b : Fin 32) (k : Fin 32) (r h w : Fin 24) :
    shapeCast S32x32x13824 x shapeCasts_S32x768x24x24_S32x32x13824 (ix3 b k (place r h w)) = x (ix4 b (Ref.chan24 k r) h w) := by
  refine shapeCast_apply x _ _ _ ?_
  rw [Shape.rowMajor_val_four, Shape.rowMajor_val_three]
  show ((b.val * 768 + (24 * k.val + r.val)) * 24 + h.val) * 24 + w.val = (b.val * 32 + k.val) * 13824 + ((r.val * 24 + h.val) * 24 + w.val)
  omega

theorem cast_out (y : S32x32x13824.Idx → Ideal .f32) (b : Fin 32) (c : Fin 768) (h w : Fin 24) :
    shapeCast S32x768x24x24 y shapeCasts_S32x32x13824_S32x768x24x24 (ix4 b c h w)
      = y (ix3 b ⟨c.val / 24, by omega⟩ (place ⟨c.val % 24, Nat.mod_lt _ (by decide)⟩ h w)) := by
  refine shapeCast_apply y _ _ _ ?_
  rw [Shape.rowMajor_val_four, Shape.rowMajor_val_three]
  show (b.val * 32 + c.val / 24) * 13824 + ((c.val % 24 * 24 + h.val) * 24 + w.val) = ((b.val * 768 + c.val) * 24 + h.val) * 24 + w.val
  omega

/-- The kernel's result, from the argument, is the reference's. -/
theorem value_eq (x : S32x768x24x24.Idx → Ideal .f32) :
    shapeCast S32x768x24x24 (OUT (F := Ideal) (shapeCast S32x32x13824 x shapeCasts_S32x768x24x24_S32x32x13824)) shapeCasts_S32x32x13824_S32x768x24x24
      = Ref.result (F := Ideal) x := by
  funext i
  rw [Ref.result_at]
  obtain ⟨b, c, h, w, rfl⟩ : ∃ b c h w, i = ix4 b c h w := ⟨i 0, i 1, i 2, i 3, eq_ix4 i⟩
  rw [cast_out, out_at]
  refine congrArg (· * _) (Finset.sum_congr rfl fun k _ => ?_)
  exact cast_in x b k ⟨c.val % 24, Nat.mod_lt _ (by decide)⟩ h w

end Cert.Proof.Season

end
-- ==== Proof.lean ====
/-
  THE CLAIM: the frames of the kernel, of its ideal program and of the reference, that the ideal program is the kernel over the
  extended reals, and that kernel and reference compute one function there. The kernel's run is proved once, over any float
  values (`Season.run_main`), and both its frames and its value are read off that run.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section
namespace Cert.Proof

open Idealize.ShloMosaic Idealize.SL.Sem Cert.Kernel

/-- The reference's frame: its run, and it declares no semaphore. -/
theorem frame_reference : Cert.quiescent_ReferenceIdeal (hReferenceIdeal := Cert.ReferenceIdeal.Gen.facts) := fun m g _ =>
  (θ_run (Cert.ReferenceIdeal.defs (F := Ideal)) _ _).mono
    (fun r h => ⟨fun c => (h c).2, Idealize.ShloMosaic.sem_eq_zero_of_no_sems (by decide) r.2⟩) (Cert.ReferenceIdeal.Value.run (F := Ideal) m g)

/-- The two runs end at one value. -/
theorem values : Cert.algebraic_KernelIdeal_ReferenceIdeal (hKernelIdeal := Cert.KernelIdeal.Gen.facts) (hReferenceIdeal := Cert.ReferenceIdeal.Gen.facts) :=
  fun m g m' g' _ hm => ⟨fun c => Season.RV (F := Ideal) m c,
    (θ_run (Cert.KernelIdeal.defs (F := Ideal)) _ _).mono (fun _ h => h.1) (Season.run_main (F := Ideal) m g),
    (θ_run (Cert.ReferenceIdeal.defs (F := Ideal)) _ _).mono
      (fun _ h c => ⟨(h c).1.trans ((Season.Ref.res_eq (F := Ideal) m' c).trans
        ((congrArg (Season.Ref.result (F := Ideal)) (hm c)).trans (Season.value_eq _).symm)), (h c).2⟩)
      (Cert.ReferenceIdeal.Value.run (F := Ideal) m' g')⟩

/-- The five claims together. -/
theorem claim : Cert.Claim := ⟨Cert.Kernel.Gen.facts, Cert.KernelIdeal.Gen.facts, Cert.ReferenceIdeal.Gen.facts,
  -- the frames: the two programs are one text, read at the two instances
  fun m g _ => (θ_run (Cert.Kernel.defs (F := Bits)) _ _).mono (fun _ h => ⟨fun c => (h.1 c).2, h.2⟩) (Season.run_main (F := Bits) m g),
  fun m g _ => (θ_run (Cert.KernelIdeal.defs (F := Ideal)) _ _).mono (fun _ h => ⟨fun c => (h.1 c).2, h.2⟩) (Season.run_main (F := Ideal) m g),
  frame_reference,
  trivial,
  values⟩

end Cert.Proof

end
